-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 256]⟩ ⟨2, ![1024, 256]⟩ (Layout.meshBlock [2, 4, 4] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S3x256x256 : Shape := ⟨3, ![3, 256, 256]⟩
abbrev S3 : Shape := ⟨1, ![3]⟩
abbrev S_ : Shape := ⟨0, ![]⟩
abbrev S1 : Shape := ⟨1, ![1]⟩
abbrev S1x256x256 : Shape := ⟨3, ![1, 256, 256]⟩

abbrev nBuf : Space → Nat
  | .hbm => 2
  | .vmem => 4
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S256x256, .bf16⟩
  | .local _ .vmem, ⟨3, _⟩ => ⟨S3x256x256, .bf16⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 1 8 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_8 : BitVec 32 := 16#32
  let v18 : BitVec 32 := Scalar.muli v2 c16_i32_8
  let v19 : BitVec 32 := Scalar.addi c0_i32 v18
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v16 : BitVec 32 := Scalar.addi v5 c1_i32_5
  let c4_i32_6 : BitVec 32 := 4#32
  let v17 : BitVec 32 := Scalar.remsi v16 c4_i32_6
  let c4_i32_9 : BitVec 32 := 4#32
  let v20 : BitVec 32 := Scalar.muli v17 c4_i32_9
  let v21 : BitVec 32 := Scalar.addi v19 v20
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v22 : BitVec 32 := Scalar.muli v8 c1_i32_10
  let v23 : BitVec 32 := Scalar.addi v21 v22
  v23.toNat
def k0_dev2 (d0 : Dev nD) : Nat :=
  let c0_i32_15 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_14 : BitVec 32 := 16#32
  let v26 : BitVec 32 := Scalar.muli v2 c16_i32_14
  let v27 : BitVec 32 := Scalar.addi c0_i32_15 v26
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_11 : BitVec 32 := 2#32
  let v24 : BitVec 32 := Scalar.addi v5 c2_i32_11
  let c4_i32_12 : BitVec 32 := 4#32
  let v25 : BitVec 32 := Scalar.remsi v24 c4_i32_12
  let c4_i32_16 : BitVec 32 := 4#32
  let v28 : BitVec 32 := Scalar.muli v25 c4_i32_16
  let v29 : BitVec 32 := Scalar.addi v27 v28
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_17 : BitVec 32 := 1#32
  let v30 : BitVec 32 := Scalar.muli v8 c1_i32_17
  let v31 : BitVec 32 := Scalar.addi v29 v30
  v31.toNat
def k0_dev3 (d0 : Dev nD) : Nat :=
  let c0_i32_21 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_20 : BitVec 32 := 16#32
  let v34 : BitVec 32 := Scalar.muli v2 c16_i32_20
  let v35 : BitVec 32 := Scalar.addi c0_i32_21 v34
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v32 : BitVec 32 := Scalar.addi v5 c3_i32
  let c4_i32_18 : BitVec 32 := 4#32
  let v33 : BitVec 32 := Scalar.remsi v32 c4_i32_18
  let c4_i32_22 : BitVec 32 := 4#32
  let v36 : BitVec 32 := Scalar.muli v33 c4_i32_22
  let v37 : BitVec 32 := Scalar.addi v35 v36
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_23 : BitVec 32 := 1#32
  let v38 : BitVec 32 := Scalar.muli v8 c1_i32_23
  let v39 : BitVec 32 := Scalar.addi v37 v38
  v39.toNat
def k0_dev4 (d0 : Dev nD) : Nat :=
  let c0_i32_31 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_30 : BitVec 32 := 16#32
  let v42 : BitVec 32 := Scalar.muli v2 c16_i32_30
  let v43 : BitVec 32 := Scalar.addi c0_i32_31 v42
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_25 : BitVec 32 := 1#32
  let v40 : BitVec 32 := Scalar.addi v5 c1_i32_25
  let c4_i32_26 : BitVec 32 := 4#32
  let v41 : BitVec 32 := Scalar.remsi v40 c4_i32_26
  let c4_i32_32 : BitVec 32 := 4#32
  let v44 : BitVec 32 := Scalar.muli v41 c4_i32_32
  let v45 : BitVec 32 := Scalar.addi v43 v44
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_33 : BitVec 32 := 1#32
  let v46 : BitVec 32 := Scalar.muli v8 c1_i32_33
  let v47 : BitVec 32 := Scalar.addi v45 v46
  v47.toNat
def k0_dev5 (d0 : Dev nD) : Nat :=
  let c0_i32_42 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_41 : BitVec 32 := 16#32
  let v56 : BitVec 32 := Scalar.muli v2 c16_i32_41
  let v57 : BitVec 32 := Scalar.addi c0_i32_42 v56
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_36 : BitVec 32 := 2#32
  let v54 : BitVec 32 := Scalar.addi v5 c2_i32_36
  let c4_i32_37 : BitVec 32 := 4#32
  let v55 : BitVec 32 := Scalar.remsi v54 c4_i32_37
  let c4_i32_43 : BitVec 32 := 4#32
  let v58 : BitVec 32 := Scalar.muli v55 c4_i32_43
  let v59 : BitVec 32 := Scalar.addi v57 v58
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_44 : BitVec 32 := 1#32
  let v60 : BitVec 32 := Scalar.muli v8 c1_i32_44
  let v61 : BitVec 32 := Scalar.addi v59 v60
  v61.toNat
def k0_dev6 (d0 : Dev nD) : Nat :=
  let c0_i32_53 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_52 : BitVec 32 := 16#32
  let v70 : BitVec 32 := Scalar.muli v2 c16_i32_52
  let v71 : BitVec 32 := Scalar.addi c0_i32_53 v70
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_47 : BitVec 32 := 3#32
  let v68 : BitVec 32 := Scalar.addi v5 c3_i32_47
  let c4_i32_48 : BitVec 32 := 4#32
  let v69 : BitVec 32 := Scalar.remsi v68 c4_i32_48
  let c4_i32_54 : BitVec 32 := 4#32
  let v72 : BitVec 32 := Scalar.muli v69 c4_i32_54
  let v73 : BitVec 32 := Scalar.addi v71 v72
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_55 : BitVec 32 := 1#32
  let v74 : BitVec 32 := Scalar.muli v8 c1_i32_55
  let v75 : BitVec 32 := Scalar.addi v73 v74
  v75.toNat
abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1024x256 : Shape := ⟨2, ![1024, 256]⟩
abbrev S4x256x256 : Shape := ⟨3, ![4, 256, 256]⟩
abbrev S_ : Shape := ⟨0, ![]⟩
abbrev S256x256 : Shape := ⟨2, ![256, 256]⟩

abbrev nBuf : Space → Nat
  | .hbm => 4
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S4x256x256, .f32⟩
  | .hbm, ⟨2, _⟩ => ⟨S_, .f32⟩
  | .hbm, ⟨3, _⟩ => ⟨S256x256, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.PlanIdeal.lean ====
/-
# The exchange plan of the four-device reduction

The mesh has 32 devices, device `c` at coordinates `(c / 16, c / 4 % 4, c % 4)`. A device exchanges with the three
others of its group along the second coordinate. `peer j c` is the device `j + 1` steps further along that
coordinate, `opp j` the step that comes back.

Every device
* writes the narrowed copy of its block into its wire buffer,
* signals the meeting semaphore of its three peers, and waits for three units on its own,
* sends its wire buffer to each peer, its transfer `j` landing in slot `opp j` of `peer j`'s landing buffer,
* waits for its three transfers and for the three that come to it,
* adds the three landed copies to its own block.

A signal hands the signalled peer the slot the peer's transfer is going to fill. A transfer hands the sender its
share of the wire buffer back, and the receiver the filled slot. The plan below says this for every semaphore cell,
once for all steps `j : Fin 3`.
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The group of four -/

/-- The device `j + 1` steps along the second mesh coordinate. -/
def peer (j : Fin 3) (c : Dev nD) : Dev nD :=
  ⟨16 * (c.val / 16) + 4 * ((c.val / 4 % 4 + j.val + 1) % 4) + c.val % 4, by
    have : c.val < 32 := c.isLt
    show _ < 32
    omega⟩

/-- The step that undoes step `j`. -/
def opp (j : Fin 3) : Fin 3 := ⟨2 - j.val, by omega⟩

/-- Undoing an undoing step gives the step back. -/
theorem opp_opp (j : Fin 3) : opp (opp j) = j := by revert j; decide
/-- Step `j` and then step `opp j` lead back to the start. -/
theorem peer_opp (j : Fin 3) (c : Dev nD) : peer (opp j) (peer j c) = c := by revert j c; decide
/-- Step `opp j` and then step `j` lead back to the start. -/
theorem peer_peer_opp (j : Fin 3) (c : Dev nD) : peer j (peer (opp j) c) = c := by revert j c; decide

/-- Step `j` as a permutation of the devices paired with the step: the device at the other end, the same step. -/
def along : Dev nD × Fin 3 ≃ Dev nD × Fin 3 where
  toFun p := (peer p.2 p.1, p.2)
  invFun p := (peer (opp p.2) p.1, p.2)
  left_inv p := Prod.ext (peer_opp p.2 p.1) rfl
  right_inv p := Prod.ext (peer_peer_opp p.2 p.1) rfl

/-- The same with the returning step: the device at the other end, and the slot step `j` fills there. -/
def across : Dev nD × Fin 3 ≃ Dev nD × Fin 3 where
  toFun p := (peer p.2 p.1, opp p.2)
  invFun p := (peer p.2 p.1, opp p.2)
  left_inv p := Prod.ext (peer_opp p.2 p.1) (opp_opp p.2)
  right_inv p := Prod.ext (peer_opp p.2 p.1) (opp_opp p.2)

/-- The device words the kernel computes: the three signals and the three transfers name the three peers. -/
theorem sig0_dev (c : Dev nD) : (⟨k0_dev1 c, k0_dev1_lt c⟩ : Dev nD) = peer 0 c := Fin.ext (k0_dev1_eq c)
/-- The second signal goes to the peer at step 1. -/
theorem sig1_dev (c : Dev nD) : (⟨k0_dev2 c, k0_dev2_lt c⟩ : Dev nD) = peer 1 c := Fin.ext (k0_dev2_eq c)
/-- The third signal goes to the peer at step 2. -/
theorem sig2_dev (c : Dev nD) : (⟨k0_dev3 c, k0_dev3_lt c⟩ : Dev nD) = peer 2 c := Fin.ext (k0_dev3_eq c)
/-- The first transfer goes to the peer at step 0. -/
theorem dma0_dev (c : Dev nD) : (⟨k0_dev4 c, k0_dev4_lt c⟩ : Dev nD) = peer 0 c := Fin.ext (k0_dev4_eq c)
/-- The second transfer goes to the peer at step 1. -/
theorem dma1_dev (c : Dev nD) : (⟨k0_dev5 c, k0_dev5_lt c⟩ : Dev nD) = peer 1 c := Fin.ext (k0_dev5_eq c)
/-- The third transfer goes to the peer at step 2. -/
theorem dma2_dev (c : Dev nD) : (⟨k0_dev6 c, k0_dev6_lt c⟩ : Dev nD) = peer 2 c := Fin.ext (k0_dev6_eq c)

/-! ## Buffers and semaphores -/

/-- The staged input block, the staged result block, the wire buffer and the landing buffer. -/
abbrev inM : Memref sig .tc .vmem S256x256 .f32 := Memref.whole cc0_stg0_0
/-- The staged result block. -/
abbrev outM : Memref sig .tc .vmem S256x256 .f32 := Memref.whole cc0_stg1_0
/-- The buffer with the narrowed copy of the block to send. -/
abbrev wireM : Memref sig .tc .vmem S256x256 .bf16 := Memref.whole cc0_scratch0
/-- The landing buffer with its three slots. -/
abbrev landM : Memref sig .tc .vmem S3x256x256 .bf16 := Memref.whole cc0_scratch1

/-- Slot `s` of the landing buffer lies inside it. -/
theorem slot_inb (s : Fin 3) : ∀ a, (![s.val, 0, 0] : Fin 3 → ℕ) a + S1x256x256.size a ≤ S3x256x256.size a := by
  revert s; decide

/-- Slot `s` of the landing buffer as a rectangle of it, and as a block. -/
abbrev slotR (s : Fin 3) : Rect S3x256x256 := Rect.unit (s := S3x256x256) ![s.val, 0, 0] S1x256x256.size (slot_inb s)
/-- Slot `s` of the landing buffer. -/
abbrev slotM (s : Fin 3) : Memref sig .tc .vmem S256x256 .bf16 :=
  (landM.slice (slotR s) (fun _ => rfl)).squeeze S256x256 squeezes_S1x256x256_S256x256

/-- The meeting semaphore, the semaphores of the three outgoing and of the three incoming transfers. -/
abbrev meetS : Sem sig := (SemArray.scalar (sig.barrier 0 rfl) : Sems sig S_).sem
/-- The semaphore of the `j`-th transfer at its sender. -/
def outS (j : Fin 3) : DmaSem sig := ⟨2 + j.val, by show _ < 8; omega⟩
/-- The semaphore of slot `s` at its receiver. -/
def inS (s : Fin 3) : DmaSem sig := ⟨5 + s.val, by show _ < 8; omega⟩

/-- The seven semaphores of the exchange, by what they are for. -/
inductive Site where
  | meet
  | out (j : Fin 3)
  | inn (s : Fin 3)
  deriving DecidableEq

/-- The seven, listed. -/
abbrev sites : List Site := [.meet, .out 0, .out 1, .out 2, .inn 0, .inn 1, .inn 2]

instance : Fintype Site where
  elems := sites.toFinset
  complete := by
    rintro (_ | j | s)
    · decide
    · revert j; decide
    · revert s; decide

/-- The semaphore of a site. -/
def semOf : Site → SemLoc sig
  | .meet => .reg meetS
  | .out j => .dma (outS j)
  | .inn s => .dma (inS s)

/-- What a semaphore is for, if it is one of the seven. -/
def siteOf : SemLoc sig → Option Site
  | .reg q => if q = meetS then some .meet else none
  | .dma q =>
    if h : 2 ≤ q.val ∧ q.val < 5 then some (.out ⟨q.val - 2, by omega⟩)
    else if h : 5 ≤ q.val ∧ q.val < 8 then some (.inn ⟨q.val - 5, by omega⟩)
    else none

/-- The site read off the semaphore of a site is that site. -/
theorem siteOf_semOf (k : Site) : siteOf (semOf k) = some k := by revert k; decide

/-- No two sites share a semaphore. -/
theorem semOf_injective : Function.Injective semOf := fun a b h =>
  Option.some.inj (by rw [← siteOf_semOf a, h, siteOf_semOf b])

/-- The cell of use `k` on device `c`. -/
abbrev cell (k : Site) (c : Dev nD) : GSem nD τ sig := ((c : Thread nD τ), semOf k)

/-- Equal cells have equal sites and equal devices. -/
theorem cell_inj {k k' : Site} {c c' : Dev nD} (h : cell k c = cell k' c') : k = k' ∧ c = c' :=
  ⟨semOf_injective (congrArg Prod.snd h), congrArg (fun g : GSem nD τ sig => g.1.1) h⟩

/-- The credit of one transfer. -/
abbrev unit : ℕ := (wireM : Memref sig .tc .vmem S256x256 .bf16).view.dmaCredit
/-- The unit of a transfer is positive. -/
theorem unit_pos : 0 < unit := View.dmaCredit_pos _ (by decide)
/-- A landing credits the same unit in every slot. -/
theorem slot_credit (s : Fin 3) : (slotM s).view.dmaCredit = unit := rfl

/-! ## The resources -/

/-- The ghost state of the exchange: rounds over all cells, with three duties each. -/
abbrev UX : Type := URounds (GSem nD τ sig) (Fin 3)
/-- The ghost state of the staging and of the exchange together. -/
abbrev UU : Type := UR sig nD τ × UX

local notation "𝕄" => MT nD τ sig Unit (Elt F) ℕ UU ℕ

/-- The place of the staging's ghost state in the whole. -/
abbrev EP : Emb (UR sig nD τ) (MT nD τ sig Unit (Elt F) ℕ UU ℕ) := embL
/-- The place of the exchange's ghost state in the whole. -/
abbrev EX : Emb UX (MT nD τ sig Unit (Elt F) ℕ UU ℕ) := embR

variable (m : (ℓ : Loc nD τ sig) → Buf (Elt F) ℓ)

/-! ## Contents -/

/-- Device `c`'s block of the input, as staged. -/
def blockAt (c : Dev nD) : (cc0_stg0_0 : Ref sig .tc).ty.Contents (Elt F) :=
  (win0_0.blk (0 : Fin 1)).view.read (Elt F) (m ((c : Thread nD τ).loc main_arg0))

/-- Its narrowed copy, what travels. -/
def wireAt (c : Dev nD) : (cc0_scratch0 : Ref sig .tc).ty.Contents (Elt F) := k0_pay2 (blockAt m c)

/-- The kernel's sum of a block and three narrowed ones, in the kernel's order. -/
def total (x : FVec F S256x256 .f32) (a b d : FVec F S256x256 .bf16) : FVec F S256x256 .f32 :=
  addf (addf (addf (shapeCast S256x256 x shapeCasts_S256x256_S256x256) (extf .f32 a bitsLt_bf16_f32))
    (extf .f32 b bitsLt_bf16_f32)) (extf .f32 d bitsLt_bf16_f32)

/-- The result on device `c`: its block and the narrowed blocks of its three peers. -/
def sumAt (c : Dev nD) : (cc0_stg1_0 : Ref sig .tc).ty.Contents (Elt F) :=
  total (blockAt m c) (wireAt m (peer 0 c)) (wireAt m (peer 1 c)) (wireAt m (peer 2 c))

/-- The kernel's stored value is that sum, each landed copy read through its slot. -/
theorem stored_eq (x : FVec F S256x256 .f32) (f : Fin 3 → (landM : Memref sig .tc .vmem S3x256x256 .bf16).view.ty.Contents (Elt F)) :
    k0_pay1 x ((landM : Memref sig .tc .vmem S3x256x256 .bf16).view.readAt (Elt F) (slotR 0).toLoadRect (f 0))
        ((landM : Memref sig .tc .vmem S3x256x256 .bf16).view.readAt (Elt F) (slotR 1).toLoadRect (f 1))
        ((landM : Memref sig .tc .vmem S3x256x256 .bf16).view.readAt (Elt F) (slotR 2).toLoadRect (f 2))
      = total x ((slotM 0).view.read (Elt F) (f 0)) ((slotM 1).view.read (Elt F) (f 1)) ((slotM 2).view.read (Elt F) (f 2)) := rfl

/-- The share of the wire buffer that transfer `j` borrows. -/
def lent : Fin 3 → PosShare TreeShare
  | 0 => fullShare.left
  | 1 => fullShare.right.left
  | 2 => fullShare.right.right

/-- A share of device `c`'s wire buffer at contents `f`. -/
def wirePts (q : PosShare TreeShare) (c : Dev nD) (f : Buf (Elt F) ((wireM : Memref sig .tc .vmem S256x256 .bf16).view.loc (c : Thread nD τ))) : sProp 𝕄 :=
  (wireM : Memref sig .tc .vmem S256x256 .bf16).view.loc (c : Thread nD τ) ↦[(wireM : Memref sig .tc .vmem S256x256 .bf16).view.set]{q} f

/-- Slot `s` of device `c`'s landing buffer at contents `f`. -/
def slotPts (s : Fin 3) (c : Dev nD) (f : Buf (Elt F) ((slotM s).view.loc (c : Thread nD τ))) : sProp 𝕄 :=
  (slotM s).view.loc (c : Thread nD τ) ↦[(slotM s).view.set]{fullShare} f

omit [FloatOps F] in
instance wirePts_storable (q) (c : Dev nD) (f) : BI.Storable (upEmb : UEmb _ 𝕄) (wirePts (F := F) q c f) := by
  unfold wirePts; infer_instance
omit [FloatOps F] in
instance slotPts_storable (s) (c : Dev nD) (f) : BI.Storable (upEmb : UEmb _ 𝕄) (slotPts (F := F) s c f) := by
  unfold slotPts; infer_instance

/-! ## The plan -/

/-- Duty `d` of device `c`'s meeting cell, paid by `peer (opp d) c`: slot `d` of the payer's landing buffer. -/
def meetPay (c : Dev nD) (d : Fin 3) : sProp 𝕄 := iprop(∃ f, slotPts d (peer (opp d) c) f)
/-- Transfer `j` gives its share of the wire buffer back. -/
def outPay (c : Dev nD) (j : Fin 3) : sProp 𝕄 := wirePts (lent j) c (wireAt m c)
/-- The transfer from `peer s c` leaves that device's narrowed block in slot `s`. -/
def innPay (c : Dev nD) (s : Fin 3) : sProp 𝕄 :=
  iprop(∃ f, ⌜(slotM s).view.read (Elt F) f = wireAt m (peer s c)⌝ ∗ slotPts s c f)

/-- The payload of duty `d` at use `k` on device `c`. -/
def payAt (c : Dev nD) : Option Site → Fin 3 → sProp 𝕄
  | some .meet, d => meetPay c d
  | some (.out j), _ => outPay m c j
  | some (.inn s), _ => innPay m c s
  | none, _ => iprop(emp)

/-- The duties at a use: three units to a meeting, one transfer otherwise. -/
def dutiesAt : Option Site → Finset (Fin 3)
  | some .meet => Finset.univ
  | some (.out _) => {0}
  | some (.inn _) => {0}
  | none => ∅

/-- The amount of a duty at a use. -/
def amountAt : Option Site → ℕ
  | some .meet => 1
  | _ => unit

instance payAt_storable (c : Dev nD) (k : Option Site) (d : Fin 3) :
    BI.Storable (upEmb : UEmb _ 𝕄) (payAt (F := F) m c k d) := by
  rcases k with _ | (_ | j | s)
  · show BI.Storable upEmb (iprop(emp) : sProp 𝕄); infer_instance
  · show BI.Storable upEmb (meetPay c d); unfold meetPay; infer_instance
  · show BI.Storable upEmb (outPay m c j); unfold outPay; infer_instance
  · show BI.Storable upEmb (innPay m c s); unfold innPay; infer_instance

/-- One round on every cell of the exchange. -/
def plan : Rounds.Schedule (GSem nD τ sig) (Fin 3) 𝕄 where
  duties g r := if r = 0 ∧ g.1.2 = .tc then dutiesAt (siteOf g.2) else ∅
  unitless _ := False
  amount g _ _ := amountAt (siteOf g.2)
  payload g _ d := payAt m g.1.1 (siteOf g.2) d
  amount_pos g _ _ _ := by
    show 0 < amountAt (siteOf g.2)
    unfold amountAt; split
    · exact Nat.one_pos
    · exact unit_pos

instance plan_payload_storable (g : GSem nD τ sig) (r : ℕ) (d : Fin 3) :
    BI.Storable (upEmb : UEmb _ 𝕄) ((plan (F := F) m).payload g r d) := payAt_storable m g.1.1 (siteOf g.2) d

section Reading
variable (k : Site) (c : Dev nD)

/-- The duties of a cell in its first round are those of its site. -/
theorem duties_cell : (plan (F := F) m).duties (cell k c) 0 = dutiesAt (some k) := by
  have h : (plan (F := F) m).duties (cell k c) 0 = dutiesAt (siteOf (semOf k)) := by
    dsimp only [plan]; exact if_pos ⟨rfl, rfl⟩
  rw [h, siteOf_semOf]
/-- After the first round no cell has duties. -/
theorem duties_later (g : GSem nD τ sig) : ∀ r, 1 ≤ r → (plan (F := F) m).duties g r = ∅ :=
  fun r hr => if_neg fun h => by omega
/-- What a duty of a cell is worth. -/
theorem amount_cell (d : Fin 3) : (plan (F := F) m).amount (cell k c) 0 d = amountAt (some k) := by
  show amountAt (siteOf (semOf k)) = _; rw [siteOf_semOf]
/-- What a duty of a cell hands over. -/
theorem payload_cell (d : Fin 3) : (plan (F := F) m).payload (cell k c) 0 d = payAt m c (some k) d := by
  show payAt m c (siteOf (semOf k)) d = _; rw [siteOf_semOf]

/-- What a use expects in its round: three units at a meeting, one transfer's credit otherwise. -/
theorem expect_cell : (plan (F := F) m).expect (cell k c) 0 = match k with | .meet => 3 | _ => unit := by
  unfold Schedule.expect Schedule.amountOf
  rw [duties_cell, Finset.sum_congr rfl fun d _ => amount_cell m k c d]
  rcases k with _ | j | s
  · show ∑ _d : Fin 3, 1 = 3; decide
  · exact Finset.sum_singleton _ _
  · exact Finset.sum_singleton _ _

/-- The whole of a round's payloads, at a meeting and at a transfer's cells. -/
theorem rest_cell : bigSep ((plan (F := F) m).duties (cell k c) 0 \ ∅) (fun d => (plan (F := F) m).payload (cell k c) 0 d)
    = bigSep (dutiesAt (some k)) (fun d => payAt m c (some k) d) := by
  rw [Finset.sdiff_empty, duties_cell]; exact bigSep_congr fun d _ => payload_cell m k c d

/-- When all is paid, an outgoing transfer's cell holds the borrowed share. -/
theorem rest_out (j : Fin 3) : bigSep (dutiesAt (some (.out j))) (fun d => payAt m c (some (.out j)) d) = outPay m c j :=
  bigSep_singleton
/-- When all is paid, a slot's cell holds the slot with the sender's narrowed block. -/
theorem rest_inn (s : Fin 3) : bigSep (dutiesAt (some (.inn s))) (fun d => payAt m c (some (.inn s)) d) = innPay m c s :=
  bigSep_singleton

end Reading

/-! ## Debts and levels -/

/-- What device `c` owes for its transfer `j`, and for its signal `j`. -/
def dueX (c : Dev nD) (j : Fin 3) : CellTallies nD τ sig Unit := tallyAt (cell (.inn (opp j)) (peer j c)) () unit
/-- The unit owed to the meeting of the device at step `j`. -/
def dueM (c : Dev nD) (j : Fin 3) : CellTallies nD τ sig Unit := tallyAt (cell .meet (peer j c)) () 1

/-- The three transfers' debt, the first on the outside; and all of it, the first signal on the outside. -/
def debtX (c : Dev nD) : CellTallies nD τ sig Unit := 0 + dueX c 2 + dueX c 1 + dueX c 0
/-- All that device `c` owes at the start, the first signal on the outside. -/
def debt (c : Dev nD) : CellTallies nD τ sig Unit := debtX c + dueM c 2 + dueM c 1 + dueM c 0

/-- Levels: a meeting at 1, an incoming transfer at 2, everything else at 0. -/
def rank : Option Site → ℕ
  | some .meet => 1
  | some (.inn _) => 2
  | _ => 0
/-- The levels of a cell: one on a TensorCore, none elsewhere. -/
def L (g : GSem nD τ sig) : Finset Unit := if g.1.2 = .tc then {()} else ∅
/-- The level of a cell, given by its site. -/
def lv (g : GSem nD τ sig) (_ : Unit) : ℕ := rank (siteOf g.2)

/-- A cell away from the TensorCores has no level. -/
theorem L_of_ne (g : GSem nD τ sig) (h : g.1.2 ≠ .tc) : L g = ∅ := if_neg h
/-- A cell of a TensorCore has the one level. -/
theorem L_tc (c : Dev nD) (sm : SemLoc sig) : L ((c : Thread nD τ), sm) = {()} := if_pos rfl
/-- The level of a cell is the rank of its site. -/
theorem lv_cell (k : Site) (c : Dev nD) (u : Unit) : lv (cell k c) u = rank (some k) := by
  show rank (siteOf (semOf k)) = _; rw [siteOf_semOf]

/-- Where a tally at one cell counts something, that cell is meant. -/
theorem tallyAt_pos {g g' : GSem nD τ sig} {n : ℕ} {u : Unit} (h : 0 < (tallyAt g' () n : CellTallies nD τ sig Unit) g u) : g = g' := by
  rw [tallyAt_apply] at h
  by_contra hn
  rw [if_neg (fun h' => hn h'.1)] at h
  exact Nat.lt_irrefl 0 h

/-- Where a sum counts something, one of its summands does. -/
theorem add_pos_or {A B : CellTallies nD τ sig Unit} {g : GSem nD τ sig} {u : Unit} (h : 0 < (A + B) g u) : 0 < A g u ∨ 0 < B g u := by
  rw [Pi.add_apply, Finsupp.add_apply] at h; omega

/-- Where the transfers' debt counts something, the cell is a slot's. -/
theorem debtX_pos {c : Dev nD} {g : GSem nD τ sig} {u : Unit} (h : 0 < debtX c g u) : ∃ s d, g = cell (.inn s) d := by
  unfold debtX at h
  rcases add_pos_or h with h | h
  · rcases add_pos_or h with h | h
    · rcases add_pos_or h with h | h
      · exact absurd h (Nat.lt_irrefl 0)
      · exact ⟨_, _, tallyAt_pos h⟩
    · exact ⟨_, _, tallyAt_pos h⟩
  · exact ⟨_, _, tallyAt_pos h⟩

/-- Where the whole debt counts something, the cell is a slot's or a meeting's. -/
theorem debt_pos {c : Dev nD} {g : GSem nD τ sig} {u : Unit} (h : 0 < debt c g u) :
    (∃ s d, g = cell (.inn s) d) ∨ ∃ d, g = cell .meet d := by
  unfold debt at h
  rcases add_pos_or h with h | h
  · rcases add_pos_or h with h | h
    · rcases add_pos_or h with h | h
      · exact .inl (debtX_pos h)
      · exact .inr ⟨_, tallyAt_pos h⟩
    · exact .inr ⟨_, tallyAt_pos h⟩
  · exact .inr ⟨_, tallyAt_pos h⟩

/-- A semaphore ranked below every cell of a debt may be waited for under it. -/
theorem mayWait_below (c : Dev nD) (sm : SemLoc sig) (n : ℕ) (hn : rank (siteOf sm) ≤ n) (O : CellTallies nD τ sig Unit)
    (hO : ∀ g u, 0 < O g u → ∃ k d, g = cell k d ∧ n < rank (some k)) :
    (levAts L lv : sProp 𝕄) ⊢ MayWait (c : Thread nD τ) sm () O :=
  MayOwe.of_cut (L := L) (lev := lv) n
    (fun p hp => by rw [Finset.mem_singleton.mp hp, L_tc]; exact Finset.mem_singleton_self _)
    (fun g u hg => by obtain ⟨k, d, rfl, -⟩ := hO g u hg; rw [L_tc]; exact Finset.mem_singleton_self _)
    (fun p hp => by rw [Finset.mem_singleton.mp hp]; exact hn)
    (fun g u hg => by obtain ⟨k, d, rfl, h⟩ := hO g u hg; rw [lv_cell]; exact h)

/-- Staging semaphores may be waited for under the whole debt. -/
theorem mayWait_stage (c : Dev nD) (q : DmaSem sig) (hq : siteOf (.dma q) = none) (O : CellTallies nD τ sig Unit) (hO : O = debt c ∨ O = 0) :
    (levAts L lv : sProp 𝕄) ⊢ MayWait (c : Thread nD τ) (.dma q) () O := by
  rcases hO with rfl | rfl
  · refine mayWait_below c _ 0 (by rw [hq]; exact Nat.le_refl 0) _ fun g u hg => ?_
    rcases debt_pos hg with ⟨s, d, rfl⟩ | ⟨d, rfl⟩
    · exact ⟨_, _, rfl, by simp only [rank]; decide⟩
    · exact ⟨_, _, rfl, by simp only [rank]; decide⟩
  · rw [MayWait_zero]; iintro -; iempintro

/-- The meeting may be waited for under the transfers' debt. -/
theorem mayWait_meet (c : Dev nD) : (levAts L lv : sProp 𝕄) ⊢ MayWait (c : Thread nD τ) (semOf .meet) () (debtX c) :=
  mayWait_below c _ 1 (by decide) _ fun g u hg => by
    obtain ⟨s, d, rfl⟩ := debtX_pos hg
    exact ⟨_, _, rfl, by simp only [rank]; decide⟩

end Cert.KernelIdeal.Exchange

end
-- ==== Proof.StepsIdeal.lean ====
/-
# The exchange's steps

One lemma for each kind of step of the exchange, stated for every step number `j : Fin 3`: a signal, the meeting, a
transfer, the two waits of a transfer. Besides them the landing buffer cut into its three slots and put together again.
-/
module

public import proofs.«01_k».proof.Proof.PlanIdeal
public import Idealize.ShloMosaic.Lib.Ring

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- No loop needs a variant. -/
abbrev 𝒱₀ : Variants := Variants.none

/-- A conjunction over three steps is that of its three parts. -/
theorem bigSep_three (Φ : Fin 3 → sProp 𝕄) : bigSep Finset.univ Φ = iprop(Φ 0 ∗ Φ 1 ∗ Φ 2) :=
  bigSep_univ_eq_bigSepL [0, 1, 2] (by decide) (by decide) Φ

/-! ## The landing buffer and its slots -/

/-- The elements of slot `s` in the landing buffer. -/
def slotSet (s : Fin 3) : Finset (cc0_scratch1 : Ref sig .tc).ty.Idx := (slotM s).view.set

/-- The places of a slot are those of its rectangle. -/
theorem slot_set (s : Fin 3) : slotSet s = (slotR s).set := by
  unfold slotSet; rw [Memref.set_view_squeeze]; exact View.set_slice_whole _ _

/-- Two different slots share no place. -/
theorem slots_apart (s s' : Fin 3) (h : s ≠ s') : Disjoint (slotSet s) (slotSet s') := by
  rw [slot_set, slot_set]
  exact Ring.lead_disjoint (s := S3x256x256) (NB := 3) 0 1 (fun s => ![s.val, 0, 0]) S1x256x256.size slot_inb
    (by decide) (by decide) s s' h

/-- The three slots fill the landing buffer. -/
theorem slots_cover : Finset.univ.biUnion slotSet = Finset.univ := by
  rw [show slotSet = fun s => (slotR s).set from funext slot_set]
  exact Ring.lead_cover (s := S3x256x256) (NB := 3) 0 1 (fun s => ![s.val, 0, 0]) S1x256x256.size slot_inb
    (by decide) (by decide) (by decide) (by decide) (by decide)

/-- The whole landing buffer splits into its three slots. -/
theorem land_split (c : Dev nD) :
    iprop(∃ f, ((c : Thread nD τ).loc cc0_scratch1) ↦{fullShare} f)
      ⊢ (bigSep Finset.univ fun s : Fin 3 => iprop(∃ f, slotPts s c f) : sProp 𝕄) := by
  have h (s : Fin 3) (f : Buf (Elt F) ((c : Thread nD τ).loc cc0_scratch1)) :
      (((c : Thread nD τ).loc cc0_scratch1) ↦[slotSet s]{fullShare} f : sProp 𝕄) ⊢ iprop(∃ f, slotPts s c f) := by
    unfold slotPts
    iintro H; iexists f; iexact H
  iintro ⟨%f, H⟩
  iapply ((Entails.of_eq (Ring.pointsTo_blocks (ℓ := (c : Thread nD τ).loc cc0_scratch1) slotSet slots_apart slots_cover f)).trans
    (bigSep_mono fun (s : Fin 3) _ => h s f))
  iexact H

/-- The three slots make the landing buffer whole again. -/
theorem land_join (c : Dev nD) :
    (bigSep Finset.univ fun s : Fin 3 => iprop(∃ f, slotPts s c f) : sProp 𝕄)
      ⊢ iprop(∃ f, ((c : Thread nD τ).loc cc0_scratch1) ↦{fullShare} f) := by
  have h (f₀ : Buf (Elt F) ((c : Thread nD τ).loc cc0_scratch1)) :=
    Ring.pointsTo_blocks_join_exists (Ix := Unit) (Name := ℕ) (U := UU) (Lvl := ℕ) (ℓ := (c : Thread nD τ).loc cc0_scratch1) (q := fullShare)
      slotSet slots_apart slots_cover f₀
  have e (s : Fin 3) : (iprop(∃ f, slotPts s c f) : sProp 𝕄)
      ⊢ iprop(∃ f : Buf (Elt F) ((c : Thread nD τ).loc cc0_scratch1), ((c : Thread nD τ).loc cc0_scratch1) ↦[slotSet s]{fullShare} f) := by
    unfold slotPts
    iintro ⟨%f, H⟩; iexists f; iexact H
  rw [bigSep_three]
  iintro ⟨⟨%f0, H0⟩, H1, H2⟩
  iapply (h f0)
  iapply (Entails.of_eq (bigSep_three _).symm)
  isplitl [H0]; · iapply (e 0); iexists f0; iexact H0
  isplitl [H1]; · iapply (e 1); iexact H1
  iapply (e 2); iexact H2

/-- The elements a load of slot `s` reads are the slot's. -/
theorem slot_read_set (s : Fin 3) : (landM : Memref sig .tc .vmem S3x256x256 .bf16).view.setOn (slotR s).toLoadRect.set ⊆ (slotM s).view.set := by
  show _ ⊆ slotSet s
  rw [slot_set]; intro i hi
  rw [View.setOn, Finset.mem_map] at hi
  obtain ⟨x, hx, rfl⟩ := hi
  exact hx

/-! ## The wire buffer and its shares -/

/-- The whole wire buffer is the three shares the transfers borrow. -/
theorem wire_shares (c : Dev nD) (f : Buf (Elt F) ((c : Thread nD τ).loc cc0_scratch0)) :
    (((c : Thread nD τ).loc cc0_scratch0) ↦{fullShare} f : sProp 𝕄)
      ⊣⊢ iprop(wirePts (lent 0) c f ∗ wirePts (lent 1) c f ∗ wirePts (lent 2) c f) := by
  unfold wirePts
  rw [show (wireM : Memref sig .tc .vmem S256x256 .bf16).view.set = Finset.univ from View.set_whole _]
  have h1 := pointsTo_share (ℓ := (c : Thread nD τ).loc cc0_scratch0) (I := Finset.univ) (f := f) (Ix := Unit) (Name := ℕ) (U := UU) (Lvl := ℕ)
    (PosShare.mem_left_op_right fullShare)
  have h2 := pointsTo_share (ℓ := (c : Thread nD τ).loc cc0_scratch0) (I := Finset.univ) (f := f) (Ix := Unit) (Name := ℕ) (U := UU) (Lvl := ℕ)
    (PosShare.mem_left_op_right fullShare.right)
  exact ⟨h1.1.trans (sep_mono_right h2.1), (sep_mono_right h2.2).trans h1.2⟩

/-! ## What every device knows -/

/-- The invariant of every cell of the exchange, and that each has reached its round. -/
def known (K : Dev nD × Site → ℕ) : sProp 𝕄 :=
  iprop((bigSep Finset.univ fun p : Dev nD × Site => cellInv EX (plan m) (K p) (cell p.2 p.1))
    ∗ bigSep Finset.univ fun p : Dev nD × Site => reached EX (cell p.2 p.1) 0)

instance known_persistent (K : Dev nD × Site → ℕ) : BI.Persistent (known m K) := by unfold known; infer_instance

/-- What all know contains the invariant of each cell. -/
theorem known_inv (K : Dev nD × Site → ℕ) (k : Site) (c : Dev nD) : known m K ⊢ cellInv EX (plan m) (K (c, k)) (cell k c) := by
  unfold known
  exact (sep_elim_left).trans (bigSep_elim (Φ := fun p : Dev nD × Site => (cellInv EX (plan m) (K p) (cell p.2 p.1) : sProp 𝕄)) (Finset.mem_univ (c, k)))
/-- What all know contains that the first round of each cell is reached. -/
theorem known_reached (K : Dev nD × Site → ℕ) (k : Site) (c : Dev nD) : known m K ⊢ reached EX (cell k c) 0 := by
  unfold known
  exact (sep_elim_right).trans (bigSep_elim (Φ := fun p : Dev nD × Site => (reached EX (cell p.2 p.1) 0 : sProp 𝕄)) (Finset.mem_univ (c, k)))

section Steps

variable (K : Dev nD × Site → ℕ) (c : Dev nD)

/-- Signal `j`: the device hands `peer j c` its own slot `j`, and is rid of the unit it owes. -/
theorem step_signal (j : Fin 3) (n : Dev nD) (hn : n = peer j c) {α : Type} {Q : α → sProp 𝕄}
    {k : PUnit → Prog (TpuEff nD τ sig (Elt F) Λ₀ .tc) α} (O : CellTallies nD τ sig Unit) (W : Waits sig Unit) :
    iprop(known m K ∗ owes (c : Thread nD τ) (O + dueM c j) W ∗ dutyTok EX (cell .meet (peer j c)) 0 j ∗ ∃ f, slotPts j c f)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (n, .tc) meetS 1) k) Q) := by
  subst hn
  iintro ⟨#HK, HO, Ht, Hs⟩
  iapply (Rounds.wp_signal 𝒱₀ EX (plan m) (c : Thread nD τ) none (dst := (peer j c : Thread nD τ)) (sem := meetS) (κ := K (peer j c, .meet))
      (d := j) (r := 0) (by rw [show (((peer j c : Thread nD τ), SemLoc.reg meetS) : GSem nD τ sig) = cell .meet (peer j c) from rfl, duties_cell]; exact Finset.mem_univ _)
      (amount_cell m .meet (peer j c) j) () O rfl)
  isplitr; · iapply (known_inv m K .meet (peer j c)); iexact HK
  isplitl [HO]; · iexact HO
  isplitl [Ht]; · iexact Ht
  isplitl [Hs]
  · iapply (show meetPay (peer j c) j ⊢ (plan (F := F) m).payload ((peer j c : Thread nD τ), .reg meetS) 0 j from
      Entails.of_eq (payload_cell m .meet (peer j c) j).symm)
    unfold meetPay; rw [peer_opp]
    iexact Hs
  iapply (known_reached m K .meet (peer j c)); iexact HK

/-- Transfer `j` to `peer j c`, into its slot `opp j`: the device lends its share of the wire buffer and gives the slot
    its peer handed it, and is rid of the transfer it owes. -/
theorem step_send (j : Fin 3) (n : Dev nD) (hn : n = peer j c) (D : Memref sig .tc .vmem S256x256 .bf16) (hD : D = slotM (opp j))
    (qo qi : DmaSem sig) (ho : qo = outS j) (hi : qi = inS (opp j))
    {hsc : D.view.ref.isScScratch = false} {hsrc : (wireM : Memref sig .tc .vmem S256x256 .bf16).view.WordExact} {hdst : D.view.WordExact}
    {hsem : DmaTarget.Typed .vmem (.dma qi) (.remote (Dev.tc n : Thread nD τ) D (.dma qo) hsc)}
    {α : Type} {Q : α → sProp 𝕄} {k : PUnit → Prog (TpuEff nD τ sig (Elt F) Λ₀ .tc) α}
    (O : CellTallies nD τ sig Unit) (W : Waits sig Unit) :
    iprop(known m K ∗ wirePts (lent j) c (wireAt m c) ∗ (∃ f, slotPts (opp j) (peer j c) f) ∗ owes (c : Thread nD τ) (O + dueX c j) W
        ∗ dutyTok EX (cell (.out j) c) 0 0 ∗ dutyTok EX (cell (.inn (opp j)) (peer j c)) 0 0)
      ⊢ iprop(((cred (tallyAt (cell (.out j) c) () unit) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma wireM (.remote (Dev.tc n : Thread nD τ) D (.dma qo) hsc) (.dma qi) hsrc hdst hsem) k) Q) := by
  subst hn hD ho hi
  unfold wirePts slotPts
  iintro ⟨#HK, Hw, ⟨%fd, Hs⟩, HO, Hto, Hti⟩
  iapply (Rounds.wp_send_pointsTo 𝒱₀ EX (plan m) (c : Thread nD τ) none (κ₁ := K (c, .out j)) (κ₂ := K (peer j c, .inn (opp j)))
    (c' := (peer j c : Thread nD τ)) (dst := slotM (opp j)) (src := wireM) (sS := semOf (.out j)) (sem := semOf (.inn (opp j)))
    (r₁ := 0) (r₂ := 0) (d₁ := 0) (d₂ := 0) (fd := fd) (fs := wireAt m c) (q := lent j)
    (by rw [duties_cell m (.out j) c]; exact Finset.mem_singleton_self _)
    (by rw [duties_cell m (.inn (opp j)) (peer j c)]; exact Finset.mem_singleton_self _)
    () () unit rfl (amount_cell m (.out j) c 0) (amount_cell m (.inn (opp j)) (peer j c) 0) O rfl (W := W)
    (by rw [payload_cell m (.out j) c]; exact BI.Entails.refl _)
    (by
      rw [payload_cell m (.inn (opp j)) (peer j c)]
      show _ ⊢ innPay m (peer j c) (opp j)
      unfold innPay slotPts; rw [peer_opp]
      iintro H
      iexists ((slotM (opp j)).view.write (Elt F) fd (wireM.view.read (Elt F) (wireAt m c)) Finset.univ)
      isplitr
      · ipureintro; exact View.read_write_univ _ _
      iexact H))
  isplitr; · iapply (known_inv m K (.out j) c); iexact HK
  isplitr; · iapply (known_inv m K (.inn (opp j)) (peer j c)); iexact HK
  isplitl [Hw]; · iexact Hw
  isplitl [Hs]; · iexact Hs
  isplitl [HO]; · iexact HO
  isplitl [Hto]; · iexact Hto
  isplitr; · iapply (known_reached m K (.out j) c); iexact HK
  isplitl [Hti]; · iexact Hti
  iapply (known_reached m K (.inn (opp j)) (peer j c)); iexact HK

/-- The meeting: three units come in, and with them the three slots the device is going to fill. -/
theorem step_meet {α : Type} {Q : α → sProp 𝕄} {k : PUnit → Prog (TpuEff nD τ sig (Elt F) Λ₀ .tc) α} (W : Waits sig Unit) :
    iprop(known m K ∗ cred (tallyAt (cell .meet c) () 3) ∗ owes (c : Thread nD τ) (debtX c) W ∗ levAts L lv ∗ atPos EX (cell .meet c) 0 ∅ 0)
      ⊢ iprop(((∃ W, owes (c : Thread nD τ) (debtX c) W) ∗ atPos EX (cell .meet c) 1 ∅ 0 ∗ bigSep Finset.univ (fun d => meetPay (F := F) c d)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait meetS 3) k) Q) := by
  iintro ⟨#HK, Hc, HO, #Hlev, Hat⟩ Hk
  iapply (Rounds.wp_wait_rest_token 𝒱₀ EX (plan m) (c : Thread nD τ) none (κ := K (c, .meet)) (sm := semOf .meet)
      (wpE_semWait_eq 𝒱₀ (c : Thread nD τ) none Set.univ) (Set.mem_univ _) () (O := debtX c) (W := W) (R := 0) (m := 0) (T := ∅)
      (by rw [expect_cell m .meet c])) $$ [Hc HO Hat]
  · isplitr; · iapply (known_inv m K .meet c); iexact HK
    isplitl [Hc]; · iexact Hc
    isplitl [HO]; · iexact HO
    isplitr; · iapply (mayWait_meet c); iexact Hlev
    iexact Hat
  iintro ⟨HO, Hat, -, Hpay⟩
  iapply Hk
  isplitl [HO]; · iexists _; iexact HO
  isplitl [Hat]; · iexact Hat
  iapply (Entails.of_eq (rest_cell m .meet c)); iexact Hpay

/-- The wait for transfer `j` to have left: the device's share of the wire buffer comes back. -/
theorem step_out (j : Fin 3) (qo : DmaSem sig) (ho : qo = outS j) {s' : Shape} {e' : EltTy} {sp' : Space} {src : Memref sig .tc sp' s' e'}
    {hsrc : src.view.WordExact} {hdst : (wireM : Memref sig .tc .vmem S256x256 .bf16).view.WordExact}
    {α : Type} {Q : α → sProp 𝕄} {k : PUnit → Prog (TpuEff nD τ sig (Elt F) Λ₀ .tc) α} (W : Waits sig Unit) :
    iprop(known m K ∗ cred (tallyAt (cell (.out j) c) () unit) ∗ owes (c : Thread nD τ) 0 W ∗ atPos EX (cell (.out j) c) 0 ∅ 0)
      ⊢ iprop(((∃ W, owes (c : Thread nD τ) 0 W) ∗ atPos EX (cell (.out j) c) 1 ∅ 0 ∗ wirePts (lent j) c (wireAt m c)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 qo src wireM hsrc hdst) k) Q) := by
  subst ho
  iintro ⟨#HK, Hc, HO, Hat⟩ Hk
  iapply (Rounds.wp_wait_rest_token 𝒱₀ EX (plan m) (c : Thread nD τ) none (κ := K (c, .out j)) (sm := semOf (.out j))
      (wpE_waitDma2_eq 𝒱₀ (c : Thread nD τ) none Set.univ) (Set.mem_univ _) () (O := 0) (W := W) (R := 0) (m := 0) (T := ∅)
      (by rw [expect_cell m (.out j) c, Nat.zero_add])) $$ [Hc HO Hat]
  · isplitr; · iapply (known_inv m K (.out j) c); iexact HK
    isplitl [Hc]; · iexact Hc
    isplitl [HO]; · iexact HO
    isplitr; · rw [MayWait_zero]; iempintro
    iexact Hat
  iintro ⟨HO, Hat, -, Hpay⟩
  iapply Hk
  isplitl [HO]; · iexists _; iexact HO
  isplitl [Hat]; · iexact Hat
  iapply (show _ ⊢ wirePts (lent j) c (wireAt m c) from Entails.of_eq ((rest_cell m (.out j) c).trans (rest_out m c j))); iexact Hpay

/-- The wait for the transfer from `peer s c`: slot `s` comes in, filled. -/
theorem step_in (s : Fin 3) (qi : DmaSem sig) (hi : qi = inS s) (D : Memref sig .tc .vmem S256x256 .bf16) (hD : D = slotM s)
    {s' : Shape} {e' : EltTy} {sp' : Space} {src : Memref sig .tc sp' s' e'}
    {hsrc : src.view.WordExact} {hdst : D.view.WordExact}
    {α : Type} {Q : α → sProp 𝕄} {k : PUnit → Prog (TpuEff nD τ sig (Elt F) Λ₀ .tc) α} (W : Waits sig Unit) :
    iprop(known m K ∗ cred (tallyAt (cell (.inn s) c) () unit) ∗ owes (c : Thread nD τ) 0 W ∗ atPos EX (cell (.inn s) c) 0 ∅ 0)
      ⊢ iprop(((∃ W, owes (c : Thread nD τ) 0 W) ∗ atPos EX (cell (.inn s) c) 1 ∅ 0 ∗ innPay m c s
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 qi src D hsrc hdst) k) Q) := by
  subst hi hD
  iintro ⟨#HK, Hc, HO, Hat⟩ Hk
  iapply (Rounds.wp_wait_rest_token 𝒱₀ EX (plan m) (c : Thread nD τ) none (κ := K (c, .inn s)) (sm := semOf (.inn s))
      (wpE_waitDma2_eq 𝒱₀ (c : Thread nD τ) none Set.univ) (Set.mem_univ _) () (O := 0) (W := W) (R := 0) (m := 0) (T := ∅)
      (by rw [expect_cell m (.inn s) c, Nat.zero_add])) $$ [Hc HO Hat]
  · isplitr; · iapply (known_inv m K (.inn s) c); iexact HK
    isplitl [Hc]; · iexact Hc
    isplitl [HO]; · iexact HO
    isplitr; · rw [MayWait_zero]; iempintro
    iexact Hat
  iintro ⟨HO, Hat, -, Hpay⟩
  iapply Hk
  isplitl [HO]; · iexists _; iexact HO
  isplitl [Hat]; · iexact Hat
  iapply (Entails.of_eq ((rest_cell m (.inn s) c).trans (rest_inn m c s))); iexact Hpay

/-- A cell whose round is over closes, its counter at zero. -/
theorem close (k : Site) : iprop(known m K ∗ atPos EX (cell k c) 1 ∅ 0) ⊢ |={Set.univ}=> (semVal (cell k c) 0 : sProp 𝕄) := by
  iintro ⟨#HK, Hat⟩
  iapply (Rounds.cell_close EX (plan m) (Set.mem_univ (K (c, k))) (fun h => h) (R := 1) (duties_later m (cell k c)))
  isplitr; · iapply (known_inv m K k c); iexact HK
  iexact Hat

/-- All cells of a device close together. -/
theorem close_all : iprop(known m K ∗ bigSep Finset.univ fun k : Site => atPos EX (cell k c) 1 ∅ 0)
    ⊢ |={Set.univ}=> (bigSep Finset.univ fun k : Site => semVal (cell k c) 0 : sProp 𝕄) :=
  (sep_mono_left (BI.bigSep_of_persistent Finset.univ (known m K))).trans
    (by rw [← bigSep_sep']; exact (bigSep_mono fun k _ => close m K c k).trans (bigSep_fupd _ _))

end Steps

end Cert.KernelIdeal.Exchange

end
-- ==== Proof.BodyIdeal.lean ====
/-
# The kernel's body on one device

The body run step by step from what the launch leaves a device with, to its result block in place and every cell of the
exchange closed.
-/
module

public import proofs.«01_k».proof.Proof.StepsIdeal

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## What a device starts from and ends with -/

/-- The tokens of the duties device `c` pays at its step `j`: its signal, its transfer's landing, its transfer's leaving. -/
def tokens (c : Dev nD) (j : Fin 3) : sProp 𝕄 :=
  iprop(dutyTok EX (cell .meet (peer j c)) 0 j ∗ dutyTok EX (cell (.inn (opp j)) (peer j c)) 0 0 ∗ dutyTok EX (cell (.out j) c) 0 0)

/-- The exchange's own state on device `c`: what all know, its position at its seven cells, its tokens. -/
def ghost (K : Dev nD × Site → ℕ) (c : Dev nD) : sProp 𝕄 :=
  iprop(known m K ∗ (bigSep Finset.univ fun k : Site => atPos EX (cell k c) 0 ∅ 0) ∗ bigSep Finset.univ fun j : Fin 3 => tokens (F := F) c j)

/-- The credits device `c` waits with: three units at its meeting, a transfer's at each slot. -/
def credits (c : Dev nD) : sProp 𝕄 :=
  iprop(cred (tallyAt (cell .meet c) () 3) ∗ bigSep Finset.univ fun s : Fin 3 => cred (tallyAt (cell (.inn s) c) () unit))

/-- All that a device starts the exchange with. -/
def start (c : Dev nD) : sProp 𝕄 := iprop((∃ K, ghost m K c) ∗ credits (F := F) c ∗ levAts L lv)

/-- The two scratch buffers, at anything. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- What the body starts with, the scratch buffers included. -/
def before (c : Dev nD) : sProp 𝕄 := iprop(start m c ∗ scratch (F := F) c)
/-- What the body ends with: the buffers, and every counter back at zero. -/
def after (c : Dev nD) : sProp 𝕄 := iprop(scratch (F := F) c ∗ bigSep Finset.univ fun k : Site => semVal (cell k c) 0)

/-- The one region's data: the input block is kept, the result block is the sum. -/
def dats (_ : Fin 1) (c : Dev nD) : Dat τ (Elt F) Unit ℕ UU ℕ cfg0 c where
  A w := m ((cfg0.win w).arr.view.loc (c : Thread nD τ))
  after w _ := match w with
    | ⟨0, _⟩ => blockAt m c
    | ⟨1, _⟩ => sumAt m c
  Φ t := match t with
    | ⟨0, _⟩ => before m c
    | ⟨_ + 1, _⟩ => after (F := F) c
  q _ := fullShare
  owed t := match t with
    | ⟨0, _⟩ => debt c
    | ⟨_ + 1, _⟩ => 0

/-- A conjunction over the sites is that of its seven parts. -/
theorem bigSep_sites (Φ : Site → sProp 𝕄) : bigSep Finset.univ Φ
    = iprop(Φ .meet ∗ Φ (.out 0) ∗ Φ (.out 1) ∗ Φ (.out 2) ∗ Φ (.inn 0) ∗ Φ (.inn 1) ∗ Φ (.inn 2)) :=
  bigSep_univ_eq_bigSepL sites (by decide) (by decide) Φ

/-! ## Whole-buffer accesses -/

/-- The rectangle of a whole block. -/
abbrev allR : Rect S256x256 := Rect.unit (s := S256x256) ![0, 0] S256x256.size inb_S256x256_S256x256_0_0

/-- The corner of that rectangle is the origin. -/
theorem zeros : (![0, 0] : Fin 2 → Nat) = fun _ => 0 := funext fun a => by fin_cases a <;> rfl
/-- Loading the whole block reads its contents. -/
theorem load_in (f : (cc0_stg0_0 : Ref sig .tc).ty.Contents (Elt F)) : (inM : Memref sig .tc .vmem S256x256 .f32).view.readAt (Elt F) allR.toLoadRect f = f :=
  Memref.readAt_unit_zero (Elt F) cc0_stg0_0 zeros _ f
/-- Storing over the whole narrowed copy replaces its contents. -/
theorem store_wire (f w : (cc0_scratch0 : Ref sig .tc).ty.Contents (Elt F)) :
    ((wireM : Memref sig .tc .vmem S256x256 .bf16).access allR : View sig .tc _ _ _).write (Elt F) f w Finset.univ = w :=
  Memref.write_access_unit_zero_univ (Elt F) cc0_scratch0 zeros _ f w
/-- Storing over the whole result block replaces its contents. -/
theorem store_out (f w : (cc0_stg1_0 : Ref sig .tc).ty.Contents (Elt F)) :
    ((outM : Memref sig .tc .vmem S256x256 .f32).access allR : View sig .tc _ _ _).write (Elt F) f w Finset.univ = w :=
  Memref.write_access_unit_zero_univ (Elt F) cc0_stg1_0 zeros _ f w

/-- The wire buffer as the store leaves it is the buffer itself. -/
theorem wire_named (c : Dev nD) (w : (cc0_scratch0 : Ref sig .tc).ty.Contents (Elt F)) :
    iprop(((wireM : Memref sig .tc .vmem S256x256 .bf16).access allR : View sig .tc _ _ _).loc (c : Thread nD τ) ↦{fullShare} w)
      ⊢ (iprop(((c : Thread nD τ).loc cc0_scratch0) ↦{fullShare} w) : sProp 𝕄) := Entails.refl _

/-- Owning a whole staging buffer is holding its contents. -/
theorem whole_owned (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- Once each slot holds its peer's wire block, what the body stores is the device's sum. -/
theorem stored_sum (c : Dev nD) (f0 f1 f2 : (cc0_scratch1 : Ref sig .tc).ty.Contents (Elt F))
    (h0 : (slotM 0).view.read (Elt F) f0 = wireAt m (peer 0 c)) (h1 : (slotM 1).view.read (Elt F) f1 = wireAt m (peer 1 c))
    (h2 : (slotM 2).view.read (Elt F) f2 = wireAt m (peer 2 c)) :
    k0_pay1 (blockAt m c) (landM.view.readAt (Elt F) (slotR 0).toLoadRect f0) (landM.view.readAt (Elt F) (slotR 1).toLoadRect f1)
      (landM.view.readAt (Elt F) (slotR 2).toLoadRect f2) = sumAt m c := by
  unfold sumAt; rw [← h0, ← h1, ← h2]
  exact stored_eq (blockAt m c) (fun | 0 => f0 | 1 => f1 | 2 => f2)

/-- A staging buffer of device `c` holding `X`. -/
abbrev held (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

section Body

variable (K : Dev nD × Site → ℕ) (c : Dev nD)

/-- What the body runs from, with the names of the invariants fixed. -/
def bodyPre : sProp 𝕄 :=
  iprop((ghost m K c ∗ credits (F := F) c ∗ levAts L lv ∗ scratch (F := F) c)
    ∗ (dats m 0 c).owesAt () t0_0.castSucc
    ∗ (∃ d, held c cc0_stg0_0 ((dats m 0 c).before (0 : Fin 2) t0_0 d))
    ∗ (∃ d, held c cc0_stg1_0 ((dats m 0 c).before (1 : Fin 2) t0_0 d)))

/-- What the body leaves. -/
def bodyPost : sProp 𝕄 :=
  iprop(after (F := F) c ∗ (dats m 0 c).owesAt () t0_0.succ ∗ held c cc0_stg0_0 (blockAt m c) ∗ held c cc0_stg1_0 (sumAt m c))

set_option maxHeartbeats 2000000 in
/-- The body, effect by effect. -/
theorem body_runs (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  simp only [k0_part1_eq_skeleton, k0_part2_eq_skeleton, k0_part3_eq_skeleton, k0_part4_eq_skeleton]
  unfold k0_part1_skel k0_part2_skel k0_part3_skel k0_part4_skel
  simp only [semSignalWord, semWaitWord, Prog.lift, Prog.bind_op, Prog.bind_ret, Prog.pure_eq_ret, Prog.bind_assoc, wp_deviceId]
  unfold bodyPre ghost credits scratch
  iintro ⟨⟨⟨⟨#HK, Hat, Htok⟩, ⟨HcM, HcI⟩, #Hlev, ⟨%w0, Hw⟩, Hland⟩, Ho, ⟨%d0, %g0, %hg0, Hx⟩, ⟨%d1, %g1, %hg1, Hout⟩⟩, Hk⟩
  have hx : g0 = blockAt m c := by rw [hg0]; unfold Dat.before; rw [if_pos (fetch0_0 t0_0)]; rfl
  subst hx
  unfold Dat.owesAt Pipeline.owesWithin
  icases Ho with ⟨%W, %hW, HO⟩
  rw [show (dats m 0 c).owed t0_0.castSucc = debt c from rfl]
  ihave Hat := (Entails.of_eq (bigSep_sites (F := F) _)) $$ Hat
  icases Hat with ⟨HaM, HaO0, HaO1, HaO2, HaI0, HaI1, HaI2⟩
  ihave Htok := (Entails.of_eq (bigSep_three (F := F) _)) $$ Htok
  unfold tokens
  icases Htok with ⟨⟨HtM0, HtI0, HtO0⟩, ⟨HtM1, HtI1, HtO1⟩, ⟨HtM2, HtI2, HtO2⟩⟩
  ihave HcI := (Entails.of_eq (bigSep_three (F := F) _)) $$ HcI
  icases HcI with ⟨HcI0, HcI1, HcI2⟩
  ihave Hland := (land_split (F := F) c) $$ Hland
  ihave Hland := (Entails.of_eq (bigSep_three (F := F) _)) $$ Hland
  icases Hland with ⟨Hs0, Hs1, Hs2⟩
  -- the block is narrowed into the wire buffer
  iapply (wp_load 𝒱₀ (c : Thread nD τ) none Set.univ (m := inM) (Finset.subset_univ _)) $$ Hx; iintro Hx
  rw [load_in]
  iapply (wp_load 𝒱₀ (c : Thread nD τ) none Set.univ (m := wireM) (Finset.subset_univ _)) $$ Hw; iintro Hw
  iapply (wp_store 𝒱₀ (c : Thread nD τ) none Set.univ (m := wireM) (r := allR) (Mk := Finset.univ) (Finset.subset_univ _)) $$ Hw; iintro Hw
  rw [store_wire, show k0_pay2 (blockAt m c) = wireAt m c from rfl]
  -- the three signals
  unfold debt
  iapply (step_signal m K c 0 _ (sig0_dev c) _ W) $$ [HO HtM0 Hs0]
  · isplitr; · iexact HK
    isplitl [HO]; · iexact HO
    isplitl [HtM0] <;> iassumption
  iintro HO
  iapply (step_signal m K c 1 _ (sig1_dev c) _ W) $$ [HO HtM1 Hs1]
  · isplitr; · iexact HK
    isplitl [HO]; · iexact HO
    isplitl [HtM1] <;> iassumption
  iintro HO
  iapply (step_signal m K c 2 _ (sig2_dev c) _ W) $$ [HO HtM2 Hs2]
  · isplitr; · iexact HK
    isplitl [HO]; · iexact HO
    isplitl [HtM2] <;> iassumption
  iintro HO
  -- the meeting
  iapply (step_meet m K c W) $$ [HcM HO HaM]
  · isplitr; · iexact HK
    isplitl [HcM]; · iexact HcM
    isplitl [HO]; · iexact HO
    isplitr; · iexact Hlev
    iexact HaM
  iintro ⟨⟨%W1, HO⟩, HaM, Hmt⟩
  ihave Hmt := (Entails.of_eq (bigSep_three (F := F) _)) $$ Hmt
  unfold meetPay
  icases Hmt with ⟨Hp0, Hp1, Hp2⟩
  -- the three transfers
  ihave Hw := (wire_named c _) $$ Hw
  ihave Hw := (wire_shares c (wireAt m c)).1 $$ Hw
  icases Hw with ⟨Hw0, Hw1, Hw2⟩
  unfold debtX
  iapply (step_send m K c 0 _ (dma0_dev c) _ rfl _ _ rfl rfl _ W1) $$ [Hw0 Hp2 HO HtO0 HtI0]
  · isplitr; · iexact HK
    isplitl [Hw0]; · iexact Hw0
    isplitl [Hp2]; · iexact Hp2
    isplitl [HO]; · iexact HO
    isplitl [HtO0] <;> iassumption
  iintro ⟨HcO0, HO⟩
  iapply (step_send m K c 1 _ (dma1_dev c) _ rfl _ _ rfl rfl _ W1) $$ [Hw1 Hp1 HO HtO1 HtI1]
  · isplitr; · iexact HK
    isplitl [Hw1]; · iexact Hw1
    isplitl [Hp1]; · iexact Hp1
    isplitl [HO]; · iexact HO
    isplitl [HtO1] <;> iassumption
  iintro ⟨HcO1, HO⟩
  iapply (step_send m K c 2 _ (dma2_dev c) _ rfl _ _ rfl rfl _ W1) $$ [Hw2 Hp0 HO HtO2 HtI2]
  · isplitr; · iexact HK
    isplitl [Hw2]; · iexact Hw2
    isplitl [Hp0]; · iexact Hp0
    isplitl [HO]; · iexact HO
    isplitl [HtO2] <;> iassumption
  iintro ⟨HcO2, HO⟩
  -- the waits, two for each transfer
  iapply (step_out m K c 0 _ rfl W1) $$ [HcO0 HO HaO0]
  · isplitr; · iexact HK
    isplitl [HcO0]; · iexact HcO0
    isplitl [HO] <;> iassumption
  iintro ⟨⟨%W2, HO⟩, HaO0, Hw0⟩
  iapply (step_in m K c 2 _ rfl _ rfl W2) $$ [HcI2 HO HaI2]
  · isplitr; · iexact HK
    isplitl [HcI2]; · iexact HcI2
    isplitl [HO] <;> iassumption
  iintro ⟨⟨%W3, HO⟩, HaI2, Hs2⟩
  iapply (step_out m K c 1 _ rfl W3) $$ [HcO1 HO HaO1]
  · isplitr; · iexact HK
    isplitl [HcO1]; · iexact HcO1
    isplitl [HO] <;> iassumption
  iintro ⟨⟨%W4, HO⟩, HaO1, Hw1⟩
  iapply (step_in m K c 1 _ rfl _ rfl W4) $$ [HcI1 HO HaI1]
  · isplitr; · iexact HK
    isplitl [HcI1]; · iexact HcI1
    isplitl [HO] <;> iassumption
  iintro ⟨⟨%W5, HO⟩, HaI1, Hs1⟩
  iapply (step_out m K c 2 _ rfl W5) $$ [HcO2 HO HaO2]
  · isplitr; · iexact HK
    isplitl [HcO2]; · iexact HcO2
    isplitl [HO] <;> iassumption
  iintro ⟨⟨%W6, HO⟩, HaO2, Hw2⟩
  iapply (step_in m K c 0 _ rfl _ rfl W6) $$ [HcI0 HO HaI0]
  · isplitr; · iexact HK
    isplitl [HcI0]; · iexact HcI0
    isplitl [HO] <;> iassumption
  iintro ⟨⟨%W7, HO⟩, HaI0, Hs0⟩
  -- every cell closes
  imod (close_all m K c) $$ [HaM HaO0 HaO1 HaO2 HaI0 HaI1 HaI2] with Hz
  · isplitr; · iexact HK
    iapply (Entails.of_eq (bigSep_sites (F := F) _).symm)
    isplitl [HaM]; · iexact HaM
    isplitl [HaO0]; · iexact HaO0
    isplitl [HaO1]; · iexact HaO1
    isplitl [HaO2]; · iexact HaO2
    isplitl [HaI0]; · iexact HaI0
    isplitl [HaI1] <;> iassumption
  ihave Hw := (wire_shares c (wireAt m c)).2 $$ [Hw0 Hw1 Hw2]
  · isplitl [Hw0]; · iexact Hw0
    isplitl [Hw1] <;> iassumption
  unfold innPay slotPts
  icases Hs0 with ⟨%f0, %hf0, Hs0⟩
  icases Hs1 with ⟨%f1, %hf1, Hs1⟩
  icases Hs2 with ⟨%f2, %hf2, Hs2⟩
  -- the loads and the store
  iapply (wp_load 𝒱₀ (c : Thread nD τ) none Set.univ (m := inM) (Finset.subset_univ _)) $$ Hx; iintro Hx
  rw [load_in]
  iapply (wp_load 𝒱₀ (c : Thread nD τ) none Set.univ (m := landM) (slot_read_set 0)) $$ Hs0; iintro Hs0
  iapply (wp_load 𝒱₀ (c : Thread nD τ) none Set.univ (m := landM) (slot_read_set 1)) $$ Hs1; iintro Hs1
  iapply (wp_load 𝒱₀ (c : Thread nD τ) none Set.univ (m := landM) (slot_read_set 2)) $$ Hs2; iintro Hs2
  iapply (wp_load 𝒱₀ (c : Thread nD τ) none Set.univ (m := outM) (Finset.subset_univ _)) $$ Hout; iintro Hout
  iapply (wp_store 𝒱₀ (c : Thread nD τ) none Set.univ (m := outM) (r := allR) (Mk := Finset.univ) (Finset.subset_univ _)) $$ Hout; iintro Hout
  rw [store_out, wp_ret]; imodintro
  iapply Hk
  unfold bodyPost after scratch Dat.owesAt Pipeline.owesWithin
  rw [show (dats m 0 c).owed t0_0.succ = 0 from rfl]
  isplitl [Hw Hs0 Hs1 Hs2 Hz]
  · isplitl [Hw Hs0 Hs1 Hs2]
    · isplitl [Hw]; · iexists _; iexact Hw
      iapply (land_join (F := F) c)
      iapply (Entails.of_eq (bigSep_three (F := F) _).symm)
      unfold slotPts
      isplitl [Hs0]; · iexists f0; iexact Hs0
      isplitl [Hs1]; · iexists f1; iexact Hs1
      iexists f2; iexact Hs2
    iexact Hz
  isplitl [HO]
  · iexists W7
    isplitr; · ipureintro; exact fun _ _ => Or.inl trivial
    iexact HO
  isplitl [Hx]
  · iexists _; isplitr; · (ipureintro; rfl)
    iexact Hx
  iexists _
  isplitr
  swap
  · iexact Hout
  · ipureintro
    exact stored_sum m c f0 f1 f2 hf0 hf1 hf2

end Body

end Cert.KernelIdeal.Exchange

end
-- ==== Proof.LaunchIdeal.lean ====
/-
# The launch

The body as the library's obligation; the exchange's cells and tokens funded, opened and dealt over the mesh; the credits
the devices' debts come to; the run of the whole program from them.
-/
module

public import proofs.«01_k».proof.Proof.BodyIdeal
public import Idealize.ShloMosaic.Lib.Pipeline.CollectiveSegs

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The body as an obligation -/

set_option maxRecDepth 4000 in
/-- What the library hands the body at its one grid point. -/
def handed (c : Dev nD) : sProp 𝕄 :=
  iprop(before m c ∗ (dats m 0 c).owesAt () t0_0.castSucc
    ∗ (∃ d, held c cc0_stg0_0 ((dats m 0 c).before (0 : Fin 2) t0_0 d))
    ∗ (∃ d, held c cc0_stg1_0 ((dats m 0 c).before (1 : Fin 2) t0_0 d)))

/-- What is handed to the body, with the names of the invariants brought out. -/
theorem handed_open (c : Dev nD) : handed m c ⊢ iprop(∃ K, bodyPre m K c) := by
  unfold handed before start bodyPre
  iintro ⟨⟨⟨⟨%K, Hg⟩, Hc, Hl⟩, Hs⟩, Hrest⟩
  iexists K
  isplitr [Hrest]
  · isplitl [Hg]; · iexact Hg
    isplitl [Hc]; · iexact Hc
    isplitl [Hl] <;> iassumption
  · iexact Hrest

set_option maxRecDepth 4000 in
/-- The library's body obligation on device `c`. -/
theorem body_obligation (c : Dev nD) : BodyObligation (dats (F := F) m 0 c) (defs₀ (F := F)) 𝒱₀ () Set.univ := fun t => by
  rw [fin_N0 t]
  rw [bigSep_W0, bigSep_W0]
  simp only [whole_owned]
  show handed m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3) (fun _ => bodyPost m c)
  iintro H
  ihave H := (handed_open m c) $$ H
  icases H with ⟨%K, H⟩
  iapply (body_runs m K c fun _ => bodyPost m c)
  isplitl [H]; · iexact H
  iintro H; iexact H

/-- Every window is held whole. -/
theorem share_eq (c : Dev nD) (w : Fin cfg0.W) : (dats m 0 c).share w = fullShare := by unfold Dat.share; split <;> rfl

/-! ## Cells, tokens and their funding -/

/-- The kernel's own semaphores that are scoped: all its transfers'. -/
abbrev osem : Fin 6 → SemLoc sig := ![.dma (outS 0), .dma (outS 1), .dma (outS 2), .dma (inS 0), .dma (inS 1), .dma (inS 2)]

/-- The kernel's own semaphores are distinct, scoped, and not the staging's. -/
theorem ownSemFacts : Pipeline.OwnSemFacts cfg0.spec osem := by decide

/-- Site and device name a cell once. -/
theorem at_injective : Function.Injective (fun p : Dev nD × Site => cell p.2 p.1) := fun a b h =>
  Prod.ext (cell_inj h).2 (cell_inj h).1

/-- All cells of the exchange. -/
def allCells : Finset (GSem nD τ sig) := Finset.univ.map ⟨_, at_injective⟩

/-- The tokens as minted: for device `c` and step `j` the `j`-th unit at its meeting, slot `j`'s landing, transfer `j`'s leaving. -/
abbrev mint (p : (Dev nD × Fin 3) × Fin 3) : GSem nD τ sig × ℕ × Fin 3 := match p.2 with
  | 0 => (cell .meet p.1.1, 0, p.1.2)
  | 1 => (cell (.inn p.1.2) p.1.1, 0, 0)
  | 2 => (cell (.out p.1.2) p.1.1, 0, 0)

/-- Which one a token is can be read off it. -/
theorem mint_injective : Function.Injective mint := by
  rintro ⟨⟨c, j⟩, k⟩ ⟨⟨c', j'⟩, k'⟩ h
  have hc := congrArg (fun x : GSem nD τ sig × ℕ × Fin 3 => x.1) h
  have hd := congrArg (fun x : GSem nD τ sig × ℕ × Fin 3 => x.2.2) h
  fin_cases k <;> fin_cases k' <;> obtain ⟨h1, h2⟩ := cell_inj hc
  all_goals first
    | cases h1; cases h2; rfl
    | (cases h1; cases h2; cases (show j = j' from hd); rfl)
    | exact absurd h1 (by simp)

/-- All tokens of the exchange. -/
def allTokens : Finset (GSem nD τ sig × ℕ × Fin 3) := Finset.univ.map ⟨mint, mint_injective⟩

/-- The launch element: the staging's and the exchange's. -/
def u₀ : UU :=
  (initOf (Pipeline.cells cfgs cellOf_inj) (Pipeline.launchToks cfgs cellOf_inj), initOf allCells allTokens)

/-- The tokens minted for device `c`'s own cells. -/
def minted (c : Dev nD) (j : Fin 3) : sProp 𝕄 :=
  iprop(dutyTok EX (cell .meet c) 0 j ∗ dutyTok EX (cell (.inn j) c) 0 0 ∗ dutyTok EX (cell (.out j) c) 0 0)

/-- Device `c`'s share of the launch element. -/
def given (c : Dev nD) : sProp 𝕄 :=
  iprop((bigSep Finset.univ fun k : Site => roundState EX (plan m) (cell k c) 0)
    ∗ (bigSep Finset.univ fun k : Site => atPos EX (cell k c) 0 ∅ 0)
    ∗ (bigSep Finset.univ fun k : Site => reached EX (cell k c) 0)
    ∗ bigSep Finset.univ fun j : Fin 3 => minted (F := F) c j)

/-- The same with the cells' invariants in place of their states. -/
def opened (c : Dev nD) : sProp 𝕄 :=
  iprop((bigSep Finset.univ fun k : Site => iprop(∃ κ : ℕ, cellInv EX (plan m) κ (cell k c)))
    ∗ (bigSep Finset.univ fun k : Site => atPos EX (cell k c) 0 ∅ 0)
    ∗ (bigSep Finset.univ fun k : Site => reached EX (cell k c) 0)
    ∗ bigSep Finset.univ fun j : Fin 3 => minted (F := F) c j)

/-- The launch element pays every device's share. -/
theorem fund_exchange : BI.own (EX (initOf allCells allTokens)) ⊢ (|==> bigSep Finset.univ (given m) : sProp 𝕄) := by
  have hX (Φ : GSem nD τ sig → sProp 𝕄) : bigSep allCells Φ = bigSep Finset.univ fun c : Dev nD => bigSep Finset.univ fun k : Site => Φ (cell k c) := by
    unfold allCells; rw [bigSep_map, bigSep_univ_prod]; rfl
  have hT : bigSep allTokens (fun x => (dutyTok EX x.1 x.2.1 x.2.2 : sProp 𝕄))
      = bigSep Finset.univ fun c : Dev nD => bigSep Finset.univ fun j : Fin 3 => minted c j := by
    unfold allTokens; rw [bigSep_map, bigSep_univ_prod, bigSep_univ_prod]
    exact bigSep_congr fun c _ => bigSep_congr fun j _ => by rw [bigSep_three]; rfl
  iintro HX
  imod (Rounds.fund EX (plan m) allCells allTokens) $$ HX with ⟨Hst, Hr, Hat, Htok⟩
  imodintro
  ihave Hst := (Entails.of_eq (hX _)) $$ Hst
  ihave Hat := (Entails.of_eq (hX _)) $$ Hat
  ihave Hr := (Entails.of_eq (hX _)) $$ Hr
  ihave Htok := (Entails.of_eq hT) $$ Htok
  unfold given; simp only [bigSep_sep']
  isplitl [Hst]; · iexact Hst
  isplitl [Hat]; · iexact Hat
  isplitl [Hr]; · iexact Hr
  iexact Htok

/-- The scoped semaphores at zero are those of the six transfers. -/
theorem ownSems0_eq (c : Dev nD) : (Pipeline.ownSems0 (Ix := Unit) (Name := ℕ) (U := UU) (Lvl := ℕ) (Val := Elt F) (τ := τ) osem c : sProp 𝕄)
    = iprop(semVal (cell (.out 0) c) 0 ∗ semVal (cell (.out 1) c) 0 ∗ semVal (cell (.out 2) c) 0
        ∗ semVal (cell (.inn 0) c) 0 ∗ semVal (cell (.inn 1) c) 0 ∗ semVal (cell (.inn 2) c) 0) := by
  rw [Pipeline.ownSems0_eq_of_list c osem [0, 1, 2, 3, 4, 5] (by decide) (by decide)]; rfl

/-- The unscoped semaphore at zero is the meeting's. -/
theorem unscopedSems0_eq (c : Dev nD) : (unscopedSems0 c : sProp 𝕄) = semVal (cell .meet c) 0 := by
  unfold unscopedSems0; rw [bigSep_eq_bigSepL_of_eq [SemLoc.reg meetS] (by decide) (by decide)]; rfl

/-- The counters at zero, by site or as the launch groups them. -/
theorem counters (c : Dev nD) : (bigSep Finset.univ fun k : Site => semVal (cell k c) 0 : sProp 𝕄)
    = iprop(unscopedSems0 c ∗ Pipeline.ownSems0 (Ix := Unit) (Name := ℕ) (U := UU) (Lvl := ℕ) (Val := Elt F) (τ := τ) osem c) := by
  rw [ownSems0_eq, unscopedSems0_eq, bigSep_sites]

/-- One device's cells opened. -/
theorem open_cells (c : Dev nD) :
    iprop(Pipeline.ownSems0 (Ix := Unit) (Name := ℕ) (U := UU) (Lvl := ℕ) (Val := Elt F) (τ := τ) osem c ∗ unscopedSems0 c ∗ given m c)
      ⊢ |={Set.univ}=> opened m c := by
  have hopen : iprop((bigSep Finset.univ fun k : Site => semVal (cell k c) 0) ∗ bigSep Finset.univ fun k : Site => roundState EX (plan m) (cell k c) 0)
      ⊢ (|={Set.univ}=> bigSep Finset.univ fun k : Site => iprop(∃ κ : ℕ, cellInv EX (plan m) κ (cell k c)) : sProp 𝕄) := by
    rw [← bigSep_sep']
    exact (bigSep_mono fun k _ => (Rounds.body_intro EX (plan m) (cell k c)).trans inv_alloc).trans (bigSep_fupd _ _)
  unfold given opened
  iintro ⟨Hos, Hus, Hst, Hrest⟩
  imod hopen $$ [Hos Hus Hst] with Hinv
  · isplitr [Hst]
    · iapply (Entails.of_eq (counters (F := F) c).symm)
      isplitl [Hus] <;> iassumption
    · iexact Hst
  imodintro
  isplitl [Hinv] <;> iassumption

/-- A family over devices and steps may be dealt out along any permutation of them. -/
theorem dealt (e : Dev nD × Fin 3 ≃ Dev nD × Fin 3) (Φ : Dev nD × Fin 3 → sProp 𝕄) :
    (bigSep Finset.univ fun c : Dev nD => bigSep Finset.univ fun j : Fin 3 => Φ (c, j))
      = bigSep Finset.univ fun c : Dev nD => bigSep Finset.univ fun j : Fin 3 => Φ (e (c, j)) := by
  rw [← bigSep_univ_prod Φ, bigSep_univ_equiv e Φ, bigSep_univ_prod]

/-- The minted tokens reach the devices that pay with them. -/
theorem deal : (bigSep Finset.univ fun c : Dev nD => bigSep Finset.univ fun j : Fin 3 => (minted c j : sProp 𝕄))
    = bigSep Finset.univ fun c : Dev nD => bigSep Finset.univ fun j : Fin 3 => tokens c j := by
  unfold minted tokens
  simp only [bigSep_sep']
  rw [dealt along (fun p => dutyTok EX (cell .meet p.1) 0 p.2), dealt across (fun p => dutyTok EX (cell (.inn p.2) p.1) 0 0)]
  rfl

/-- A persistent fact may be used at every index. -/
theorem spread {I : Type} [DecidableEq I] {S : Finset I} {R : sProp 𝕄} [BI.Persistent R] {Φ Ψ : I → sProp 𝕄}
    (h : ∀ i, iprop(R ∗ Φ i) ⊢ Ψ i) : iprop(R ∗ bigSep S Φ) ⊢ bigSep S Ψ :=
  (sep_mono_left (BI.bigSep_of_persistent S R)).trans ((Entails.of_eq (bigSep_sep' S (fun _ => R) Φ).symm).trans (bigSep_mono fun i _ => h i))

/-- Opened cells and minted tokens, over the mesh, are every device's own state of the exchange. -/
theorem gather : (bigSep Finset.univ (opened m) : sProp 𝕄) ⊢ bigSep Finset.univ fun c : Dev nD => iprop(∃ K, ghost m K c) := by
  unfold opened
  simp only [bigSep_sep']
  rw [deal, ← bigSep_univ_prod (fun p : Dev nD × Site => iprop(∃ κ : ℕ, cellInv EX (plan m) κ (cell p.2 p.1))),
    ← bigSep_univ_prod (fun p : Dev nD × Site => (reached EX (cell p.2 p.1) 0 : sProp 𝕄))]
  iintro ⟨HI, Hat, #HR, Htok⟩
  ihave HK := (BI.bigSep_exists_pi Finset.univ (fun (p : Dev nD × Site) (κ : ℕ) => (cellInv EX (plan m) κ (cell p.2 p.1) : sProp 𝕄))) $$ HI
  icases HK with ⟨%K, #HI⟩
  iapply (spread (R := known m K) (Φ := fun c : Dev nD => iprop((bigSep Finset.univ fun k : Site => atPos EX (cell k c) 0 ∅ 0)
    ∗ bigSep Finset.univ fun j : Fin 3 => tokens (F := F) c j)) fun c => by
      iintro H
      iexists K
      unfold ghost
      iexact H)
  isplitr
  · unfold known
    isplitl
    · iexact HI
    · iexact HR
  · rw [bigSep_sep']
    isplitl [Hat] <;> iassumption

/-- Over the whole mesh at once: every cell opened, every token dealt. -/
theorem global : (bigSep Finset.univ fun c => iprop(Pipeline.ownSems0 (Ix := Unit) (Name := ℕ) (U := UU) (Lvl := ℕ) (Val := Elt F) (τ := τ) osem c ∗ unscopedSems0 c ∗ given m c) : sProp 𝕄)
    ⊢ |={Set.univ}=> bigSep Finset.univ fun c : Dev nD => iprop(∃ K, ghost m K c) :=
  ((bigSep_mono fun c _ => open_cells m c).trans (bigSep_fupd _ _)).trans (BI.fupd_mono (gather m))

/-! ## The launch's credits -/

/-- What all devices together owe a site. -/
def awaited : Site → ℕ
  | .meet => 3
  | .out _ => 0
  | .inn _ => unit

/-- Debts of `n` to site `k₀` across step `j` come to `n` at each device's site `k₀` and to nothing elsewhere. -/
theorem sum_due (k k₀ : Site) (j : Fin 3) (n : ℕ) (c : Dev nD) :
    (∑ d : Dev nD, (tallyAt (cell k₀ (peer j d)) () n : CellTallies nD τ sig Unit) (cell k c) ()) = if k = k₀ then n else 0 := by
  simp only [tallyAt_apply]
  split
  · rename_i h; subst h
    rw [Finset.sum_eq_single (peer (opp j) c)]
    · rw [if_pos ⟨by rw [peer_peer_opp], trivial⟩]
    · intro d _ hd
      exact if_neg fun h => hd (by rw [(cell_inj h.1).2, peer_opp])
    · exact fun h => absurd (Finset.mem_univ _) h
  · rename_i h
    exact Finset.sum_eq_zero fun d _ => if_neg fun h' => h (cell_inj h'.1).1

/-- The debts of all devices sum to what each site awaits. -/
theorem sum_debt (k : Site) (c : Dev nD) : (∑ d : Dev nD, debt d (cell k c) ()) = awaited k := by
  have h (d : Dev nD) : debt d (cell k c) () = dueX d 2 (cell k c) () + dueX d 1 (cell k c) () + dueX d 0 (cell k c) ()
      + dueM d 2 (cell k c) () + dueM d 1 (cell k c) () + dueM d 0 (cell k c) () := by
    unfold debt debtX; rw [zero_add]; rfl
  rw [Finset.sum_congr rfl fun d _ => h d]
  simp only [Finset.sum_add_distrib, dueX, dueM, sum_due]
  rcases k with _ | j | s
  · simp [awaited]
  · simp [awaited]
  · fin_cases s <;> simp [awaited, opp]

/-- The launch credits a site with what it awaits. -/
theorem launch_at (k : Site) (c : Dev nD) :
    tallyOn (cell k c) (launchCredit (Pipeline.owing debt) 0 (cell k c)) = (tallyAt (cell k c) () (awaited k) : CellTallies nD τ sig Unit) := by
  unfold tallyAt; refine congrArg _ (Finsupp.ext fun u => ?_); cases u
  rw [Pipeline.launchCredit_owing, Finsupp.single_eq_same, sum_debt]

/-- The launch credits a device with all it waits with. -/
theorem launch_credits (c : Dev nD) : (Pipeline.launchCred debt c : sProp 𝕄) ⊢ credits (F := F) c := by
  have h : (Pipeline.launchCred debt c : sProp 𝕄) ⊢ bigSep Finset.univ fun k : Site => cred (tallyAt (cell k c) () (awaited k)) := by
    unfold Pipeline.launchCred
    refine (bigSep_subset (Finset.subset_univ (Finset.univ.map ⟨semOf, semOf_injective⟩))).trans ?_
    rw [bigSep_map]
    exact bigSep_mono fun k _ => Entails.of_eq (congrArg (fun T => (cred T : sProp 𝕄)) (launch_at k c))
  refine h.trans ?_
  rw [bigSep_sites]
  unfold credits
  rw [bigSep_three]
  iintro ⟨HM, -, -, -, H0, H1, H2⟩
  isplitl [HM]; · iexact HM
  isplitl [H0]; · iexact H0
  isplitl [H1]
  · iexact H1
  · iexact H2

/-! ## The run -/

/-- From what the launch gives, a device has its start. -/
theorem enter (c : Dev nD) :
    iprop(Pipeline.unscopedRestP Pipeline.Prefetch.none cfg0.spec c (fun b => m ((c : Thread nD τ).loc b)) ∗ levAts L lv
        ∗ Pipeline.launchCred debt c ∗ prngReg c (ρ c) ∗ (∃ K, ghost m K c))
      ⊢ |={Set.univ}=> iprop(start m c ∗ emp) := by
  iintro ⟨-, Hlev, Hcr, -, HG⟩
  ihave Hc := (launch_credits (F := F) c) $$ Hcr
  imodintro
  unfold start
  isplitl
  · isplitl [HG]; · iexact HG
    isplitl [Hc] <;> iassumption
  · iempintro

/-- From its start, a device has what the body starts with. -/
theorem first (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before m c from rfl, scopedRest0_eq]
  unfold before scratch
  iintro ⟨Hs, -, Hr⟩
  isplitl [Hs] <;> iassumption

/-- From what the body ends with, a device gives back what the launch asks for. -/
theorem last (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = after (F := F) c from rfl, scopedRest0_eq]
  unfold after scratch
  rw [counters]
  iintro ⟨Hr, Hu, Ho⟩
  isplitl [Hu]; · iexact Hu
  isplitl [Ho] <;> iassumption

/-- Waiting for the staging is always allowed. -/
theorem stage_waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-- Window `w`'s array on device `c` after the run. -/
def finalA (c : Dev nD) (w : Fin cfg0.W) : Buf (Elt F) ((cfg0.win w).arr.view.loc (c : Thread nD τ)) := (dats m 0 c).arrAt w cfg0.N

/-- Every window's array on every device at its final contents. -/
def Arrays : PUnit × MemSt nD τ sig (Elt F) → Prop := fun r =>
  ∀ c : Dev nD, ∀ w : Fin cfg0.W, r.2.mem ((cfg0.win w).arr.view.loc (c : Thread nD τ)) = finalA m c w

set_option maxRecDepth 8000 in
/-- From any memory with every counter at zero, every fair execution of the program on the 32 devices ends with the arrays at
    their final contents and every counter at zero. -/
theorem run_main : θ_run defs (onTc (τ := τ) (main (F := F))) ⟨m, fun _ => 0, ρ⟩ (fun r => Arrays m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := debt) (howed₀ := fun _ => rfl) (howedN := fun _ => rfl)
    (L := L) (lv := lv) (hL := L_of_ne) (hwaits := stage_waits m)
    (G := given m) (G' := fun c => iprop(∃ K, ghost m K c)) (u₀ := u₀)
    (hu₀ := by
      unfold u₀
      iintro Hu
      ihave H := (ownU_pair _ _) $$ Hu
      icases H with ⟨HP, HX⟩
      imod (fund_exchange m) $$ HX with HG
      imodintro
      isplitl [HP] <;> iassumption)
    (hglob := global m)
    (hA := fun _ _ => rfl) (hpf := fun _ k => k.elim0)
    (X := start m) (Y := fun c => unscopedSems0 c) (Z := fun _ => iprop(emp))
    (hX := enter m ρ) (hin := first m) (hout := last m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument's array holds what it held. -/
theorem final_arg (c : Dev nD) : finalA m c (0 : Fin 2) = m (win0_0.arr.view.loc (c : Thread nD τ)) :=
  (dats (F := F) m 0 c).arrAt_in (0 : Fin 2) rfl _

end Cert.KernelIdeal.Exchange

end
-- ==== Proof.Value.lean ====
/-
# The value

At exact arithmetic the result on each device is the reference's: the four row blocks of the whole array added up, each device
starting from its own.
-/
module

public import proofs.«01_k».proof.Defs
public import proofs.«01_k».proof.Proof.LaunchIdeal
public import proofs.«01_k».proof.Proof.Gen.ReferenceIdeal.Run
public import Idealize.ShloMosaic.Lib.IdealHost
public import Idealize.ShloMosaic.Lib.Pipeline.Value

@[expose] public section

noncomputable section

namespace Cert.KernelIdeal.Exchange

open Cert.KernelIdeal Cert.KernelIdeal.Gen

open Idealize.ShloMosaic
open Idealize.ShloMosaic.TcCoe
open Idealize.SL.Sem
open Idealize.ShloMosaic.ValueIdx

section Result

variable {F : FTy → Type} [FloatOps F] (m : (ℓ : Loc nD τ sig) → Buf (Elt F) ℓ)

/-- The one block lies at the origin. -/
theorem zero_offset : (fun a : Fin 2 => 0 * S256x256.size a) = fun _ => 0 := funext fun _ => Nat.zero_mul _

/-- The staged block is the whole argument. -/
theorem block_eq (c : Dev nD) : blockAt m c = m ((c : Thread nD τ).loc main_arg0) :=
  Memref.read_access_unit_zero (Elt F) main_arg0 zero_offset _ _

/-- The result array ends as the device's sum. -/
theorem final_out (c : Dev nD) : finalA m c (1 : Fin 2) = sumAt m c := by
  have h : (win0_1.blk (0 : Fin 1)).view.read (Elt F) (finalA m c (1 : Fin 2)) = sumAt m c := by
    unfold finalA
    rw [show cfg0.N = ((0 : Fin 1) : Fin cfg0.N).val + 1 from rfl, (dats m 0 c).arrAt_succ (1 : Fin 2) (0 : Fin 1),
      show (cfg0.win (1 : Fin 2)).flush (0 : Fin 1) = true from by decide, if_pos rfl]
    exact View.read_write_univ _ _
  exact (Memref.read_access_unit_zero (Elt F) main_v1 zero_offset _ _).symm.trans h

end Result

/-! ## Exact arithmetic -/

/-- The shape of the whole argument. -/
abbrev Whole : Shape := ⟨2, ![1024, 256]⟩
/-- The shape of a block of the argument. -/
abbrev Piece : Shape := ⟨2, ![256, 256]⟩

/-- Row block `k` of a whole array. -/
def rows (X : Whole.Idx → EReal) (k : Fin 4) : Piece.Idx → EReal := fun i =>
  X (Shape.pair ⟨k.val * 256 + (i 0).val, by have h : (i 0).val < 256 := (i 0).isLt; show _ < 1024; omega⟩ ⟨(i 1).val, (i 1).isLt⟩)

/-- The row block device `c` holds. -/
def place (c : Dev nD) : Fin 4 := ⟨c.val / 4 % 4, Nat.mod_lt _ (by decide)⟩

/-- A peer's row block is as many further around as the peer is. -/
theorem place_peer (j : Fin 3) (c : Dev nD) : place (peer j c) = place c + j.succ := by revert j c; decide

/-- The layout's block on device `c` is that row block. -/
theorem block_rows (X : Whole.Idx → EReal) (c : Fin 32) :
    Layout.blockN Piece Whole (Layout.meshBlock [2, 4, 4] ![[1], []] c) X = rows X (place c) := by
  funext i
  refine congrArg X (funext fun b => Fin.ext ?_)
  fin_cases b
  · show (c.val / 4 % 4 * 1 + 0) * 256 + (i 0).val = c.val / 4 % 4 * 256 + (i 0).val
    omega
  · show 0 * 256 + (i 1).val = (i 1).val
    omega

/-- A sum over the four row blocks may start from any of them. -/
theorem sum_from (f : Fin 4 → EReal) (k : Fin 4) : ∑ q, f q = f k + f (k + 1) + f (k + 2) + f (k + 3) := by
  rw [← Equiv.sum_comp (Equiv.addLeft k) f, Fin.sum_univ_four]
  simp only [Equiv.coe_addLeft, add_zero]

/-- At exact arithmetic narrowing keeps every value. -/
theorem narrow (a : Piece.Idx → EReal) : k0_pay2 (F := Ideal) a = a := by
  unfold k0_pay2
  dsimp only
  rw [shapeCast_self, shapeCast_self]
  exact funext fun i => truncf_apply (φ := .f32) (ψ := .bf16) a _ i

/-- At exact arithmetic widening keeps every value too, so the kernel's sum is the plain sum. -/
theorem total_apply (x a b d : Piece.Idx → EReal) (i : Piece.Idx) : total (F := Ideal) x a b d i = x i + a i + b i + d i := by
  unfold total
  rw [shapeCast_self]
  simp only [addf_apply, extf_apply]

/-- The reference's result of a whole array. -/
def refResult (X : Whole.Idx → EReal) : Piece.Idx → EReal :=
  Host.reduceAdd (F := Ideal) (φ := .f32) (shapeCast _ X Cert.ReferenceIdeal.Gen.facts.shapeCasts_S1024x256_S4x256x256)
    (constant (F := Ideal) Cert.ReferenceIdeal.S_ .f32 0x00000000#32) Cert.ReferenceIdeal.Gen.facts.reducesTo_S4x256x256_S256x256_d0 Cert.ReferenceIdeal.Gen.facts.h_S_

/-- Adding over the first axis leaves the other two. -/
theorem reduces_first : Cert.ReferenceIdeal.S4x256x256.Reduces [0] Cert.ReferenceIdeal.S256x256 := by decide

/-- The reference adds up the four row blocks. -/
theorem refResult_apply (X : Whole.Idx → EReal) (i : Piece.Idx) : refResult X i = ∑ k : Fin 4, rows X k i := by
  unfold refResult
  rw [hostReduceAdd_apply, Ideal.hostReduceAdd_single _ reduces_first]
  rw [show (constant (F := Ideal) Cert.ReferenceIdeal.S_ .f32 0x00000000#32) (Shape.Idx.first Cert.ReferenceIdeal.Gen.facts.h_S_) = (0 : EReal)
    from Ideal.ofBits_zero_f32, zero_add]
  refine Finset.sum_congr rfl fun k _ => ?_
  unfold shapeCast rows
  refine congrArg X (Shape.reshapeEquiv_eq_of_rowMajor _ ?_)
  refine (Shape.rowMajor_pair_val _ _).trans ((Shape.rowMajor_val_three _).trans ?_).symm
  rfl

/-- From arguments cut as the layout says, every device's sum is the reference's result. -/
theorem sum_eq_ref (m : (ℓ : Loc nD τ sig) → Buf (Elt Ideal) ℓ) (X : Whole.Idx → EReal)
    (hm : ∀ c : Dev nD, m ((c : Thread nD τ).loc main_arg0) = Layout.blockN Piece Whole (Layout.meshBlock [2, 4, 4] ![[1], []] c) X)
    (c : Dev nD) : sumAt m c = refResult X := by
  have hb (d : Dev nD) : blockAt m d = rows X (place d) := (block_eq m d).trans ((hm d).trans (block_rows X d))
  have hw (d : Dev nD) : wireAt m d = rows X (place d) := by
    unfold wireAt; rw [hb]; exact narrow _
  unfold sumAt
  rw [hb, hw, hw, hw, place_peer, place_peer, place_peer]
  funext i
  rw [refResult_apply, sum_from _ (place c)]
  exact total_apply _ _ _ _ i

/-! ## The claims -/

/-- The ideal program ends with its argument unchanged and every counter at zero. -/
theorem quiescent : Cert.quiescent_KernelIdeal := fun m g _ =>
  (θ_run defs _ _).mono (fun _ h => ⟨fun c => (h.1 c (0 : Fin 2)).trans (final_arg m c), h.2⟩) (run_main (F := Ideal) m g)

/-- The reference ends with its argument unchanged and every counter at zero. -/
theorem quiescent_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The kernel and the reference compute the same over the extended reals. -/
theorem algebraic : Cert.algebraic_KernelIdeal_ReferenceIdeal := fun m g m' g' _ hm =>
  ⟨refResult (m' (((0 : Dev Cert.ReferenceIdeal.nD).tc : Thread _ Cert.ReferenceIdeal.τ).loc Cert.ReferenceIdeal.main_arg0)),
    (θ_run defs _ _).mono (fun _ h c => ⟨(h.1 c (1 : Fin 2)).trans ((final_out m c).trans (sum_eq_ref m _ hm c)),
      (h.1 c (0 : Fin 2)).trans (final_arg m c)⟩) (run_main (F := Ideal) m g),
    (θ_run Cert.ReferenceIdeal.defs _ _).mono (fun _ h => h 0) (Cert.ReferenceIdeal.Value.run (F := Ideal) m' g')⟩

end Cert.KernelIdeal.Exchange

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem Cert.Kernel

/-- The program as written ends with its argument unchanged and every counter at zero. -/
theorem quiescent_kernel : Cert.quiescent_Kernel := fun m g _ =>
  (θ_run defs _ _).mono (fun _ h => ⟨fun c => (h.1 c (0 : Fin 2)).trans (Cert.Kernel.Exchange.final_arg m c), h.2⟩)
    (Cert.Kernel.Exchange.run_main (F := Bits) m g)

/-- Everything claimed. -/
theorem claim : Cert.Claim :=
  ⟨Cert.Kernel.Gen.facts, Cert.KernelIdeal.Gen.facts, Cert.ReferenceIdeal.Gen.facts,
    quiescent_kernel, Cert.KernelIdeal.Exchange.quiescent, Cert.KernelIdeal.Exchange.quiescent_reference, trivial,
    Cert.KernelIdeal.Exchange.algebraic⟩

end Cert.Proof

end
